-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "two_ln_sigma" .f32 0xC0FA5E96#32 ((2 * (Real.log (5368709 / 268435456)) : ℝ) : EReal)
  ∧ IdealRules.named_const.Statement Cert.KernelIdeal.κ "sqrt_two" .f32 0x3FB504F3#32 ((Real.sqrt 2 : ℝ) : EReal)
  ∧ IdealRules.named_const.Statement Cert.KernelIdeal.κ "no_clamp" .f32 0x7149F2CA#32 ⊤
  ∧ IdealRules.named_const.Statement Cert.KernelIdeal.κ "minus_two_ln_sigma" .f32 0x40FA5E96#32 (((-2) * (Real.log (5368709 / 268435456)) : ℝ) : EReal)
  ∧ IdealRules.named_const.Statement Cert.KernelIdeal.κ "minus_ln_sigma_mean" .f32 0x377A5E96#32 (((-(Real.log (5368709 / 268435456))) * (1 / 262144) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S256x1024 : Shape := ⟨2, ![256, 1024]⟩
abbrev S256x1 : Shape := ⟨2, ![256, 1]⟩
abbrev S1025x2048 : Shape := ⟨2, ![1025, 2048]⟩
abbrev S2048 : Shape := ⟨1, ![2048]⟩
abbrev S2048x2048 : Shape := ⟨2, ![2048, 2048]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S256x1 : S_.BroadcastsInDim S256x1 (![] : Fin 0 → Fin S256x1.rank)
  reducesTo_S256x1_S_d0_1 : S256x1.ReducesTo [0, 1] S_
  bcast_S_S1025x2048 : S_.BroadcastsInDim S1025x2048 (![] : Fin 0 → Fin S1025x2048.rank)
  reducesTo_S1025x2048_S_d0_1 : S1025x2048.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_arg4 : FVec F S2048 .f32) (main_arg5 : FVec F S2048x2048 .f32) (main_arg6 : FVec F S2048 .f32) (main_v13 : IVec S_ 1) (main_v16 : IVec S1025x2048 1) : IVec S_ 1 :=
  let main_c_5 : IVec S_ 1 := constantI S_ 1 1#1
  let main_v17 : IVec S_ 1 := (fun x v => Host.reduce IntOp.andi x v reducesTo_S1025x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S256x1024 .f32) (main_arg1 : FVec F S256x1 .f32) (main_arg2 : FVec F S256x1024 .f32) (main_arg3 : FVec F S1025x2048 .f32) (main_arg4 : FVec F S2048 .f32) (main_arg5 : FVec F S2048x2048 .f32) (main_arg6 : FVec F S2048 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S256x1 .f32 := Host.absf main_arg1
  let main_cst_0 : FVec F S_ .f32 := constant S_ .f32 0x7F800000#32
  let main_v5 : FVec F S256x1 .f32 := broadcastInDim S256x1 ![] bcast_S_S256x1 main_cst_0
  let main_v6 : IVec S256x1 1 := cmpf .olt main_v4 main_v5
  let main_c_1 : IVec S_ 1 := constantI S_ 1 1#1
  let main_v7 : IVec S_ 1 := (fun x v => Host.reduce IntOp.andi x v reducesTo_S256x1_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S1025x2048 .f32 := Host.absf main_arg3
  let main_cst_4 : FVec F S_ .f32 := constant S_ .f32 0x7F800000#32
  let main_v15 : FVec F S1025x2048 .f32 := broadcastInDim S1025x2048 ![] bcast_S_S1025x2048 main_cst_4
  let main_v16 : IVec S1025x2048 1 := cmpf .olt main_v14 main_v15
  fn_part1 (F := F) main_arg4 main_arg5 main_arg6 main_v13 main_v16
-- ==== Kernel.lean ====
abbrev S256x1024 : Shape := ⟨2, ![256, 1024]⟩
abbrev S256x1 : Shape := ⟨2, ![256, 1]⟩
abbrev S1025x2048 : Shape := ⟨2, ![1025, 2048]⟩
abbrev S2048 : Shape := ⟨1, ![2048]⟩
abbrev S2048x2048 : Shape := ⟨2, ![2048, 2048]⟩
abbrev S1x2048 : Shape := ⟨2, ![1, 2048]⟩
abbrev S2x1x128 : Shape := ⟨3, ![2, 1, 128]⟩
abbrev S128x1024 : Shape := ⟨2, ![128, 1024]⟩
abbrev S128x1 : Shape := ⟨2, ![128, 1]⟩
abbrev S1x1x128 : Shape := ⟨3, ![1, 1, 128]⟩
abbrev S128x2048 : Shape := ⟨2, ![128, 2048]⟩
abbrev S16x8x1024 : Shape := ⟨3, ![16, 8, 1024]⟩
abbrev S1024x2048 : Shape := ⟨2, ![1024, 2048]⟩
abbrev S128x128 : Shape := ⟨2, ![128, 128]⟩
abbrev S1x128 : Shape := ⟨2, ![1, 128]⟩
abbrev S16x8x128 : Shape := ⟨3, ![16, 8, 128]⟩
abbrev S8x128 : Shape := ⟨2, ![8, 128]⟩
abbrev S1x8x128 : Shape := ⟨3, ![1, 8, 128]⟩
abbrev S16x128 : Shape := ⟨2, ![16, 128]⟩
abbrev S128 : Shape := ⟨1, ![128]⟩
abbrev S_ : Shape := ⟨0, ![]⟩

abbrev nBuf : Space → Nat
  | .hbm => 12
  | .vmem => 18
  | .smem => 0
  | _ => 0

abbrev bufTy : (tb : Table) → Fin (tcTables nBuf tb) → BufTy
  | .hbm, ⟨0, _⟩ => ⟨S256x1024, .f32⟩
  | .hbm, ⟨1, _⟩ => ⟨S256x1, .f32⟩
  | .hbm, ⟨2, _⟩ => ⟨S256x1024, .f32⟩
  | .hbm, ⟨3, _⟩ => ⟨S1025x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S2x1x128, .f32⟩
  | .hbm, ⟨10, _⟩ => ⟨S_, .f32⟩
  | .hbm, ⟨11, _⟩ => ⟨S_, .f32⟩
  | .local _ .vmem, ⟨0, _⟩ => ⟨S128x1024, .f32⟩
  | .local _ .vmem, ⟨1, _⟩ => ⟨S128x1024, .f32⟩
  | .local _ .vmem, ⟨2, _⟩ => ⟨S128x1, .f32⟩
  | .local _ .vmem, ⟨3, _⟩ => ⟨S128x1, .f32⟩
  | .local _ .vmem, ⟨4, _⟩ => ⟨S128x1024, .f32⟩
  | .local _ .vmem, ⟨5, _⟩ => ⟨S128x1024, .f32⟩
  | .local _ .vmem, ⟨6, _⟩ => ⟨S1025x2048, .f32⟩
  | .local _ .vmem, ⟨7, _⟩ => ⟨S1x2048, .f32⟩
  | .local _ .vmem, ⟨8, _⟩ => ⟨S2048x2048, .f32⟩
  | .local _ .vmem, ⟨9, _⟩ => ⟨S1x2048, .f32⟩
  | .local _ .vmem, ⟨10, _⟩ => ⟨S1x1x128, .f32⟩
  | .local _ .vmem, ⟨11, _⟩ => ⟨S1x1x128, .f32⟩
  | .local _ .vmem, ⟨12, _⟩ => ⟨S128x1024, .f32⟩
  | .local _ .vmem, ⟨13, _⟩ => ⟨S128x2048, .bf16⟩
  | .local _ .vmem, ⟨14, _⟩ => ⟨S128x2048, .f32⟩
  | .local _ .vmem, ⟨15, _⟩ => ⟨S16x8x1024, .f32⟩
  | .local _ .vmem, ⟨16, _⟩ => ⟨S16x8x1024, .f32⟩
  | .local _ .vmem, ⟨17, _⟩ => ⟨S16x8x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c16_i32 : BitVec 32 := 16#32
  let v424 : BitVec 32 := Scalar.addi c0_i32 c16_i32
  let c1_i32 : BitVec 32 := 1#32
  ⟨c0_i32, v424, c1_i32⟩
def k0_off1 (k0_t1 : Fin k0_t1_loop.trips) : Fin 3 → Nat :=
  let c0_i32 : BitVec 32 := 0#32
  let c1_i32 : BitVec 32 := 1#32
  let arg15 : BitVec 32 := Scf.iv c0_i32 c1_i32 k0_t1
  let v628 : Index := Scalar.indexCast arg15
  let c0_357 : Index := 0#32
  let c0_358 : Index := 0#32
  ![v628.toNat, 0, 0]
@[reducible] def k0_t2_loop : Scf.Loop 32 :=
  let c0_i32_202 : BitVec 32 := 0#32
  let c16_i32_203 : BitVec 32 := 16#32
  let v425 : BitVec 32 := Scalar.addi c0_i32_202 c16_i32_203
  let c1_i32_204 : BitVec 32 := 1#32
  ⟨c0_i32_202, v425, c1_i32_204⟩
def k0_off2 (k0_t2 : Fin k0_t2_loop.trips) : Fin 3 → Nat :=
  let c0_i32_202 : BitVec 32 := 0#32
  let c1_i32_204 : BitVec 32 := 1#32
  let arg15 : BitVec 32 := Scf.iv c0_i32_202 c1_i32_204 k0_t2
  let v628 : Index := Scalar.indexCast arg15
  let c0_357 : Index := 0#32
  let c128_358 : Index := 128#32
  ![v628.toNat, 0, 128]
@[reducible] def k0_t3_loop : Scf.Loop 32 :=
  let c0_i32_206 : BitVec 32 := 0#32
  let c16_i32_207 : BitVec 32 := 16#32
  let v426 : BitVec 32 := Scalar.addi c0_i32_206 c16_i32_207
  let c1_i32_208 : BitVec 32 := 1#32
  ⟨c0_i32_206, v426, c1_i32_208⟩
def k0_off3 (k0_t3 : Fin k0_t3_loop.trips) : Fin 3 → Nat :=
  let c0_i32_206 : BitVec 32 := 0#32
  let c1_i32_208 : BitVec 32 := 1#32
  let arg15 : BitVec 32 := Scf.iv c0_i32_206 c1_i32_208 k0_t3
  let v628 : Index := Scalar.indexCast arg15
  let c0_357 : Index := 0#32
  let c256_358 : Index := 256#32
  ![v628.toNat, 0, 256]
@[reducible] def k0_t4_loop : Scf.Loop 32 :=
  let c0_i32_210 : BitVec 32 := 0#32
  let c16_i32_211 : BitVec 32 := 16#32
  let v427 : BitVec 32 := Scalar.addi c0_i32_210 c16_i32_211
  let c1_i32_212 : BitVec 32 := 1#32
  ⟨c0_i32_210, v427, c1_i32_212⟩
def k0_off4 (k0_t4 : Fin k0_t4_loop.trips) : Fin 3 → Nat :=
  let c0_i32_210 : BitVec 32 := 0#32
  let c1_i32_212 : BitVec 32 := 1#32
  let arg15 : BitVec 32 := Scf.iv c0_i32_210 c1_i32_212 k0_t4
  let v628 : Index := Scalar.indexCast arg15
  let c0_357 : Index := 0#32
  let c384_358 : Index := 384#32
  ![v628.toNat, 0, 384]
@[reducible] def k0_t5_loop : Scf.Loop 32 :=
  let c0_i32_214 : BitVec 32 := 0#32
  let c16_i32_215 : BitVec 32 := 16#32
  let v428 : BitVec 32 := Scalar.addi c0_i32_214 c16_i32_215
  let c1_i32_216 : BitVec 32 := 1#32
  ⟨c0_i32_214, v428, c1_i32_216⟩
def k0_off5 (k0_t5 : Fin k0_t5_loop.trips) : Fin 3 → Nat :=
  let c0_i32_214 : BitVec 32 := 0#32
  let c1_i32_216 : BitVec 32 := 1#32
  let arg15 : BitVec 32 := Scf.iv c0_i32_214 c1_i32_216 k0_t5
  let v628 : Index := Scalar.indexCast arg15
  let c0_357 : Index := 0#32
  let c512_358 : Index := 512#32
  ![v628.toNat, 0, 512]
@[reducible] def k0_t6_loop : Scf.Loop 32 :=
  let c0_i32_218 : BitVec 32 := 0#32
  let c16_i32_219 : BitVec 32 := 16#32
  let v429 : BitVec 32 := Scalar.addi c0_i32_218 c16_i32_219
  let c1_i32_220 : BitVec 32 := 1#32
  ⟨c0_i32_218, v429, c1_i32_220⟩
def k0_off6 (k0_t6 : Fin k0_t6_loop.trips) : Fin 3 → Nat :=
  let c0_i32_218 : BitVec 32 := 0#32
  let c1_i32_220 : BitVec 32 := 1#32
  let arg15 : BitVec 32 := Scf.iv c0_i32_218 c1_i32_220 k0_t6
  let v628 : Index := Scalar.indexCast arg15
  let c0_357 : Index := 0#32
  let c640_358 : Index := 640#32
  ![v628.toNat, 0, 640]
@[reducible] def k0_t7_loop : Scf.Loop 32 :=
  let c0_i32_222 : BitVec 32 := 0#32
  let c16_i32_223 : BitVec 32 := 16#32
  let v430 : BitVec 32 := Scalar.addi c0_i32_222 c16_i32_223
  let c1_i32_224 : BitVec 32 := 1#32
  ⟨c0_i32_222, v430, c1_i32_224⟩
def k0_off7 (k0_t7 : Fin k0_t7_loop.trips) : Fin 3 → Nat :=
  let c0_i32_222 : BitVec 32 := 0#32
  let c1_i32_224 : BitVec 32 := 1#32
  let arg15 : BitVec 32 := Scf.iv c0_i32_222 c1_i32_224 k0_t7
  let v628 : Index := Scalar.indexCast arg15
  let c0_357 : Index := 0#32
  let c768_358 : Index := 768#32
  ![v628.toNat, 0, 768]
@[reducible] def k0_t8_loop : Scf.Loop 32 :=
  let c0_i32_226 : BitVec 32 := 0#32
  let c16_i32_227 : BitVec 32 := 16#32
  let v431 : BitVec 32 := Scalar.addi c0_i32_226 c16_i32_227
  let c1_i32_228 : BitVec 32 := 1#32
  ⟨c0_i32_226, v431, c1_i32_228⟩
def k0_off8 (k0_t8 : Fin k0_t8_loop.trips) : Fin 3 → Nat :=
  let c0_i32_226 : BitVec 32 := 0#32
  let c1_i32_228 : BitVec 32 := 1#32
  let arg15 : BitVec 32 := Scf.iv c0_i32_226 c1_i32_228 k0_t8
  let v628 : Index := Scalar.indexCast arg15
  let c0_357 : Index := 0#32
  let c896_358 : Index := 896#32
  ![v628.toNat, 0, 896]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1025x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "minus_ln_sigma_mean" => some (((-(Real.log (5368709 / 268435456))) * (1 / 262144) : ℝ) : EReal)
  | "minus_two_ln_sigma" => some (((-2) * (Real.log (5368709 / 268435456)) : ℝ) : EReal)
  | "no_clamp" => some ⊤
  | "sqrt_two" => some ((Real.sqrt 2 : ℝ) : EReal)
  | "two_ln_sigma" => some ((2 * (Real.log (5368709 / 268435456)) : ℝ) : EReal)
  | _ => none
-- ==== ReferenceIdeal.lean ====
abbrev S256x1024 : Shape := ⟨2, ![256, 1024]⟩
abbrev S256x1 : Shape := ⟨2, ![256, 1]⟩
abbrev S1025x2048 : Shape := ⟨2, ![1025, 2048]⟩
abbrev S2048 : Shape := ⟨1, ![2048]⟩
abbrev S2048x2048 : Shape := ⟨2, ![2048, 2048]⟩
abbrev S_ : Shape := ⟨0, ![]⟩
abbrev S256x1025 : Shape := ⟨2, ![256, 1025]⟩
abbrev S256x2048 : Shape := ⟨2, ![256, 2048]⟩
abbrev S1x2048 : Shape := ⟨2, ![1, 2048]⟩
abbrev S128 : Shape := ⟨1, ![128]⟩
abbrev S1x1x128 : Shape := ⟨3, ![1, 1, 128]⟩
abbrev S256x1024x1 : Shape := ⟨3, ![256, 1024, 1]⟩
abbrev S256x1024x128 : Shape := ⟨3, ![256, 1024, 128]⟩

abbrev nBuf : Space → Nat
  | .hbm => 196
  | .vmem => 0
  | .smem => 0
  | _ => 0

abbrev hbmTy0_0 (i : Nat) : BufTy := match i % 128 with
  | 0 => ⟨S256x1024, .f32⟩
  | 1 => ⟨S256x1, .f32⟩
  | 2 => ⟨S256x1024, .f32⟩
  | 3 => ⟨S1025x2048, .f32⟩
  | 4 => ⟨S2048, .f32⟩
  | 5 => ⟨S2048x2048, .f32⟩
  | 6 => ⟨S2048, .f32⟩
  | 7 => ⟨S_, .f32⟩
  | 8 => ⟨S256x1, .f32⟩
  | 9 => ⟨S256x1, .f32⟩
  | 10 => ⟨S_, .f32⟩
  | 11 => ⟨S256x1, .f32⟩
  | 12 => ⟨S256x1, .f32⟩
  | 13 => ⟨S_, .f32⟩
  | 14 => ⟨S256x1, .f32⟩
  | 15 => ⟨S256x1, .f32⟩
  | 16 => ⟨S256x1024, .f32⟩
  | 17 => ⟨S256x1024, .f32⟩
  | 18 => ⟨S_, .f32⟩
  | 19 => ⟨S256x1, .f32⟩
  | 20 => ⟨S256x1, .f32⟩
  | 21 => ⟨S256x1, .f32⟩
  | 22 => ⟨S256x1024, .f32⟩
  | 23 => ⟨S256x1024, .f32⟩
  | 24 => ⟨S256x1024, .f32⟩
  | 25 => ⟨S256x1025, .f32⟩
  | 26 => ⟨S256x2048, .f32⟩
  | 27 => ⟨S1x2048, .f32⟩
  | 28 => ⟨S256x2048, .f32⟩
  | 29 => ⟨S256x2048, .f32⟩
  | 30 => ⟨S_, .f32⟩
  | 31 => ⟨S256x2048, .f32⟩
  | 32 => ⟨S256x2048, .i1⟩
  | 33 => ⟨S_, .f32⟩
  | 34 => ⟨S256x2048, .f32⟩
  | 35 => ⟨S256x2048, .f32⟩
  | 36 => ⟨S256x2048, .f32⟩
  | 37 => ⟨S256x2048, .f32⟩
  | 38 => ⟨S1x2048, .f32⟩
  | 39 => ⟨S256x2048, .f32⟩
  | 40 => ⟨S256x2048, .f32⟩
  | 41 => ⟨S256x1024, .f32⟩
  | 42 => ⟨S256x1024, .f32⟩
  | 43 => ⟨S_, .f32⟩
  | 44 => ⟨S256x1, .f32⟩
  | 45 => ⟨S256x1, .f32⟩
  | 46 => ⟨S256x1, .f32⟩
  | 47 => ⟨S256x1, .f32⟩
  | 48 => ⟨S256x1024, .f32⟩
  | 49 => ⟨S256x1024, .f32⟩
  | 50 => ⟨S256x1024, .f32⟩
  | 51 => ⟨S256x1024, .f32⟩
  | 52 => ⟨S256x1024, .f32⟩
  | 53 => ⟨S256x1024, .f32⟩
  | 54 => ⟨S256x1024, .f32⟩
  | 55 => ⟨S256x1024, .f32⟩
  | 56 => ⟨S_, .f32⟩
  | 57 => ⟨S256x1, .f32⟩
  | 58 => ⟨S256x1, .i1⟩
  | 59 => ⟨S_, .f32⟩
  | 60 => ⟨S_, .f32⟩
  | 61 => ⟨S256x1024, .i1⟩
  | 62 => ⟨S256x1024, .f32⟩
  | 63 => ⟨S256x1024, .f32⟩
  | 64 => ⟨S_, .f32⟩
  | 65 => ⟨S_, .f32⟩
  | 66 => ⟨S256x1024, .i1⟩
  | 67 => ⟨S256x1024, .f32⟩
  | 68 => ⟨S256x1024, .f32⟩
  | 69 => ⟨S128, .f32⟩
  | 70 => ⟨S_, .f32⟩
  | 71 => ⟨S128, .f32⟩
  | 72 => ⟨S128, .f32⟩
  | 73 => ⟨S_, .f32⟩
  | 74 => ⟨S128, .f32⟩
  | 75 => ⟨S128, .f32⟩
  | 76 => ⟨S_, .f32⟩
  | 77 => ⟨S128, .f32⟩
  | 78 => ⟨S128, .f32⟩
  | 79 => ⟨S_, .f32⟩
  | 80 => ⟨S128, .f32⟩
  | 81 => ⟨S128, .f32⟩
  | 82 => ⟨S_, .f32⟩
  | 83 => ⟨S128, .f32⟩
  | 84 => ⟨S128, .f32⟩
  | 85 => ⟨S_, .f32⟩
  | 86 => ⟨S128, .f32⟩
  | 87 => ⟨S128, .f32⟩
  | 88 => ⟨S_, .f32⟩
  | 89 => ⟨S128, .f32⟩
  | 90 => ⟨S128, .f32⟩
  | 91 => ⟨S_, .f32⟩
  | 92 => ⟨S128, .f32⟩
  | 93 => ⟨S128, .f32⟩
  | 94 => ⟨S_, .f32⟩
  | 95 => ⟨S128, .f32⟩
  | 96 => ⟨S128, .f32⟩
  | 97 => ⟨S_, .f32⟩
  | 98 => ⟨S128, .f32⟩
  | 99 => ⟨S128, .f32⟩
  | 100 => ⟨S_, .f32⟩
  | 101 => ⟨S128, .f32⟩
  | 102 => ⟨S128, .f32⟩
  | 103 => ⟨S_, .f32⟩
  | 104 => ⟨S_, .f32⟩
  | 105 => ⟨S256x1024, .f32⟩
  | 106 => ⟨S256x1024, .f32⟩
  | 107 => ⟨S_, .f32⟩
  | 108 => ⟨S256x1024, .f32⟩
  | 109 => ⟨S256x1024, .f32⟩
  | 110 => ⟨S1x1x128, .f32⟩
  | 111 => ⟨S256x1024x1, .f32⟩
  | 112 => ⟨S256x1024x128, .f32⟩
  | 113 => ⟨S256x1024x128, .f32⟩
  | 114 => ⟨S256x1024x128, .f32⟩
  | 115 => ⟨S256x1024x1, .f32⟩
  | 116 => ⟨S256x1024x128, .f32⟩
  | 117 => ⟨S256x1024x128, .f32⟩
  | 118 => ⟨S256x1024x128, .f32⟩
  | 119 => ⟨S_, .f32⟩
  | 120 => ⟨S256x1024x128, .f32⟩
  | 121 => ⟨S256x1024x128, .f32⟩
  | 122 => ⟨S_, .f32⟩
  | 123 => ⟨S256x1024x128, .f32⟩
  | 124 => ⟨S256x1024x128, .f32⟩
  | 125 => ⟨S_, .f32⟩
  | 126 => ⟨S128, .f32⟩
  | 127 => ⟨S128, .i1⟩
  | _ => ⟨S256x1024, .f32⟩

abbrev hbmTy0_1 (i : Nat) : BufTy := match i % 128 with
  | 0 => ⟨S_, .f32⟩
  | 1 => ⟨S128, .f32⟩
  | 2 => ⟨S128, .i1⟩
  | 3 => ⟨S_, .f32⟩
  | 4 => ⟨S_, .f32⟩
  | 5 => ⟨S256x1024x128, .i1⟩
  | 6 => ⟨S256x1024x128, .f32⟩
  | 7 => ⟨S256x1024x128, .f32⟩
  | 8 => ⟨S_, .f32⟩
  | 9 => ⟨S_, .f32⟩
  | 10 => ⟨S256x1024x128, .i1⟩
  | 11 => ⟨S256x1024x128, .f32⟩
  | 12 => ⟨S256x1024x128, .f32⟩
  | 13 => ⟨S1x1x128, .f32⟩
  | 14 => ⟨S256x1024x1, .f32⟩
  | 15 => ⟨S256x1024x128, .f32⟩
  | 16 => ⟨S256x1024x128, .f32⟩
  | 17 => ⟨S256x1024x128, .f32⟩
  | 18 => ⟨S256x1024x1, .f32⟩
  | 19 => ⟨S256x1024x128, .f32⟩
  | 20 => ⟨S256x1024x128, .f32⟩
  | 21 => ⟨S256x1024x128, .f32⟩
  | 22 => ⟨S_, .f32⟩
  | 23 => ⟨S256x1024x128, .f32⟩
  | 24 => ⟨S256x1024x128, .f32⟩
  | 25 => ⟨S_, .f32⟩
  | 26 => ⟨S256x1024x128, .f32⟩
  | 27 => ⟨S256x1024x128, .f32⟩
  | 28 => ⟨S_, .f32⟩
  | 29 => ⟨S128, .f32⟩
  | 30 => ⟨S128, .i1⟩
  | 31 => ⟨S_, .f32⟩
  | 32 => ⟨S128, .f32⟩
  | 33 => ⟨S128, .i1⟩
  | 34 => ⟨S_, .f32⟩
  | 35 => ⟨S_, .f32⟩
  | 36 => ⟨S256x1024x128, .i1⟩
  | 37 => ⟨S256x1024x128, .f32⟩
  | 38 => ⟨S256x1024x128, .f32⟩
  | 39 => ⟨S_, .f32⟩
  | 40 => ⟨S_, .f32⟩
  | 41 => ⟨S256x1024x128, .i1⟩
  | 42 => ⟨S256x1024x128, .f32⟩
  | 43 => ⟨S256x1024x128, .f32⟩
  | 44 => ⟨S256x1024x128, .f32⟩
  | 45 => ⟨S1x1x128, .f32⟩
  | 46 => ⟨S256x1024x128, .f32⟩
  | 47 => ⟨S256x1024x128, .f32⟩
  | 48 => ⟨S_, .f32⟩
  | 49 => ⟨S256x1024, .f32⟩
  | 50 => ⟨S256x1024, .f32⟩
  | 51 => ⟨S256x1024, .f32⟩
  | 52 => ⟨S_, .f32⟩
  | 53 => ⟨S_, .f32⟩
  | 54 => ⟨S_, .f32⟩
  | 55 => ⟨S_, .f32⟩
  | 56 => ⟨S256x1, .f32⟩
  | 57 => ⟨S256x1, .f32⟩
  | 58 => ⟨S_, .f32⟩
  | 59 => ⟨S256x1, .f32⟩
  | 60 => ⟨S256x1, .f32⟩
  | 61 => ⟨S256x1024, .f32⟩
  | 62 => ⟨S256x1024, .f32⟩
  | 63 => ⟨S_, .f32⟩
  | 64 => ⟨S_, .f32⟩
  | 65 => ⟨S_, .f32⟩
  | 66 => ⟨S_, .f32⟩
  | 67 => ⟨S_, .f32⟩
  | _ => ⟨S256x1024, .f32⟩

abbrev hbmTy (i : Nat) : BufTy := match i / 128 with
  | 0 => hbmTy0_0 i
  | 1 => hbmTy0_1 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v44 : Ref sig .tc := ⟨.hbm, 63, rfl⟩
abbrev main_cst_8 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_cst_11 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_cst_13 : Ref sig .tc := ⟨.hbm, 82, rfl⟩
abbrev main_v55 : Ref sig .tc := ⟨.hbm, 83, rfl⟩
abbrev main_v56 : Ref sig .tc := ⟨.hbm, 84, rfl⟩
abbrev main_cst_14 : Ref sig .tc := ⟨.hbm, 85, rfl⟩
abbrev main_v57 : Ref sig .tc := ⟨.hbm, 86, rfl⟩
abbrev main_v58 : Ref sig .tc := ⟨.hbm, 87, rfl⟩
abbrev main_cst_15 : Ref sig .tc := ⟨.hbm, 88, rfl⟩
abbrev main_v59 : Ref sig .tc := ⟨.hbm, 89, rfl⟩
abbrev main_v60 : Ref sig .tc := ⟨.hbm, 90, rfl⟩
abbrev main_cst_16 : Ref sig .tc := ⟨.hbm, 91, rfl⟩
abbrev main_v61 : Ref sig .tc := ⟨.hbm, 92, rfl⟩
abbrev main_v62 : Ref sig .tc := ⟨.hbm, 93, rfl⟩
abbrev main_cst_17 : Ref sig .tc := ⟨.hbm, 94, rfl⟩
abbrev main_v63 : Ref sig .tc := ⟨.hbm, 95, rfl⟩
abbrev main_v64 : Ref sig .tc := ⟨.hbm, 96, rfl⟩
abbrev main_cst_18 : Ref sig .tc := ⟨.hbm, 97, rfl⟩
abbrev main_v65 : Ref sig .tc := ⟨.hbm, 98, rfl⟩
abbrev main_v66 : Ref sig .tc := ⟨.hbm, 99, rfl⟩
abbrev main_cst_19 : Ref sig .tc := ⟨.hbm, 100, rfl⟩
abbrev main_v67 : Ref sig .tc := ⟨.hbm, 101, rfl⟩
abbrev main_v68 : Ref sig .tc := ⟨.hbm, 102, rfl⟩
abbrev main_cst_20 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_21 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_22 : Ref sig .tc := ⟨.hbm, 119, rfl⟩
abbrev main_v83 : Ref sig .tc := ⟨.hbm, 120, rfl⟩
abbrev main_v84 : Ref sig .tc := ⟨.hbm, 121, rfl⟩
abbrev main_cst_23 : Ref sig .tc := ⟨.hbm, 122, rfl⟩
abbrev main_v85 : Ref sig .tc := ⟨.hbm, 123, rfl⟩
abbrev main_v86 : Ref sig .tc := ⟨.hbm, 124, rfl⟩
abbrev main_cst_24 : Ref sig .tc := ⟨.hbm, 125, rfl⟩
abbrev main_v87 : Ref sig .tc := ⟨.hbm, 126, rfl⟩
abbrev main_v88 : Ref sig .tc := ⟨.hbm, 127, rfl⟩
abbrev main_cst_25 : Ref sig .tc := ⟨.hbm, 128, rfl⟩
abbrev main_v89 : Ref sig .tc := ⟨.hbm, 129, rfl⟩
abbrev main_v90 : Ref sig .tc := ⟨.hbm, 130, rfl⟩
abbrev main_cst_26 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_v91 : Ref sig .tc := ⟨.hbm, 135, rfl⟩
abbrev main_cst_27 : Ref sig .tc := ⟨.hbm, 136, rfl⟩
abbrev main_call4_v0 : Ref sig .tc := ⟨.hbm, 137, rfl⟩
abbrev main_call4_v1 : Ref sig .tc := ⟨.hbm, 138, rfl⟩
abbrev main_call4_v2 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_cst_28 : Ref sig .tc := ⟨.hbm, 150, rfl⟩
abbrev main_v102 : Ref sig .tc := ⟨.hbm, 151, rfl⟩
abbrev main_v103 : Ref sig .tc := ⟨.hbm, 152, rfl⟩
abbrev main_cst_29 : Ref sig .tc := ⟨.hbm, 153, rfl⟩
abbrev main_v104 : Ref sig .tc := ⟨.hbm, 154, rfl⟩
abbrev main_v105 : Ref sig .tc := ⟨.hbm, 155, rfl⟩
abbrev main_cst_30 : Ref sig .tc := ⟨.hbm, 156, rfl⟩
abbrev main_v106 : Ref sig .tc := ⟨.hbm, 157, rfl⟩
abbrev main_v107 : Ref sig .tc := ⟨.hbm, 158, rfl⟩
abbrev main_cst_31 : Ref sig .tc := ⟨.hbm, 159, rfl⟩
abbrev main_v108 : Ref sig .tc := ⟨.hbm, 160, rfl⟩
abbrev main_v109 : Ref sig .tc := ⟨.hbm, 161, rfl⟩
abbrev main_cst_32 : Ref sig .tc := ⟨.hbm, 162, rfl⟩
abbrev main_call5_v0 : Ref sig .tc := ⟨.hbm, 163, rfl⟩
abbrev main_call5_v1 : Ref sig .tc := ⟨.hbm, 164, rfl⟩
abbrev main_call5_v2 : Ref sig .tc := ⟨.hbm, 165, rfl⟩
abbrev main_v110 : Ref sig .tc := ⟨.hbm, 166, rfl⟩
abbrev main_cst_33 : Ref sig .tc := ⟨.hbm, 167, rfl⟩
abbrev main_call6_v0 : Ref sig .tc := ⟨.hbm, 168, rfl⟩
abbrev main_call6_v1 : Ref sig .tc := ⟨.hbm, 169, rfl⟩
abbrev main_call6_v2 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_cst_34 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_cst_35 : Ref sig .tc := ⟨.hbm, 180, rfl⟩
abbrev main_v119 : Ref sig .tc := ⟨.hbm, 181, rfl⟩
abbrev main_v120 : Ref sig .tc := ⟨.hbm, 182, rfl⟩
abbrev main_cst_36 : Ref sig .tc := ⟨.hbm, 183, rfl⟩
abbrev main_v121 : Ref sig .tc := ⟨.hbm, 184, rfl⟩
abbrev main_v122 : Ref sig .tc := ⟨.hbm, 185, rfl⟩
abbrev main_cst_37 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_cst_38 : Ref sig .tc := ⟨.hbm, 191, rfl⟩
abbrev main_v127 : Ref sig .tc := ⟨.hbm, 192, rfl⟩
abbrev main_cst_39 : Ref sig .tc := ⟨.hbm, 193, rfl⟩
abbrev main_v128 : Ref sig .tc := ⟨.hbm, 194, rfl⟩
abbrev main_v129 : Ref sig .tc := ⟨.hbm, 195, rfl⟩

abbrev nD : Nat := 1
abbrev τ : Topo := Topo.v7x

variable {F : FTy → Type} [FloatOps F]
-- ==== Proof.RefRead.lean ====
module

public import proofs.«01_k».proof.Proof.Gen.ReferenceIdeal.Run
public import proofs.«01_k».proof.Proof.Gen.ReferenceIdeal.Read

@[expose] public section
end
-- ==== Proof.BodyRun.lean ====
module

public import proofs.«01_k».proof.Proof.Gen.KernelIdeal.Frame
public import proofs.«01_k».proof.Proof.Gen.KernelIdeal.Loops
public import Idealize.ShloMosaic.Lib.VecWindow

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- One run of the kernel's body at any grid point: from its seven inputs held at the values `x0 … x6` and its output
    and six scratch buffers at anything, it gives the inputs back unchanged and the output at a value `R f` that the run
    finds, `f` what the last scratch buffer held before. -/
def bodyRun (c : Dev nD) (i : grid0.Coords) (arg1 : Memref sig .tc .vmem S128x1024 .f32) (harg1 : arg1.IsWhole) (arg2 : Memref sig .tc .vmem S128x1 .f32) (harg2 : arg2.IsWhole) (arg3 : Memref sig .tc .vmem S128x1024 .f32) (harg3 : arg3.IsWhole) (arg4 : Memref sig .tc .vmem S1025x2048 .f32) (harg4 : arg4.IsWhole) (arg5 : Memref sig .tc .vmem S1x2048 .f32) (harg5 : arg5.IsWhole) (arg6 : Memref sig .tc .vmem S2048x2048 .f32) (harg6 : arg6.IsWhole) (arg7 : Memref sig .tc .vmem S1x2048 .f32) (harg7 : arg7.IsWhole) (arg8 : Memref sig .tc .vmem S1x1x128 .f32) (harg8 : arg8.IsWhole) (arg9 : Memref sig .tc .vmem S128x1024 .f32) (harg9 : arg9.IsWhole) (arg10 : Memref sig .tc .vmem S128x2048 .bf16) (harg10 : arg10.IsWhole) (arg11 : Memref sig .tc .vmem S128x2048 .f32) (harg11 : arg11.IsWhole) (arg12 : Memref sig .tc .vmem S16x8x1024 .f32) (harg12 : arg12.IsWhole) (arg13 : Memref sig .tc .vmem S16x8x1024 .f32) (harg13 : arg13.IsWhole) (arg14 : Memref sig .tc .vmem S16x8x1024 .f32) (harg14 : arg14.IsWhole)
    (x0 : Vec F S128x1024 .f32) (x1 : Vec F S128x1 .f32) (x2 : Vec F S128x1024 .f32) (x3 : Vec F S1025x2048 .f32) (x4 : Vec F S1x2048 .f32) (x5 : Vec F S2048x2048 .f32) (x6 : Vec F S1x2048 .f32) :
    { R : BufTy.Contents (Elt F) arg14.view.ty → Vec F S1x1x128 .f32 //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, owns (c : Thread nD τ) arg8 fullShare (R f)) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K } :=
  by
    refine ⟨?R, fun E K => ?run⟩
    case run =>
      simp only [cc0__fused_kernel_eq_skeleton]; unfold cc0__fused_kernel_skel
      simp only [k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
      obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
      sl_exec
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists fs5, _; isplitr; swap; · iexact H7
        ipureintro; exact View.read_writes_full _ _ _ _ _
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      iexists _, _; isplitr; swap; · iexact HS5
      ipureintro; rfl

end Cert.KernelIdeal.Body
end
-- ==== Proof.Chunk.lean ====
module

public import proofs.«01_k».proof.Proof.BodyRun

@[expose] public section

set_option maxRecDepth 16384

noncomputable section

namespace Cert.KernelIdeal.Body

open Cert.KernelIdeal.Gen
open Idealize.ShloMosaic

variable {F : FTy → Type} [FloatOps F] [Named F]

/-! The kernel's repeated pieces, each written once: what one chunk of 128 columns stores as its step and its first
    argument of `erf`, what one trip of a counted loop stores as the sums of eight rows, and what one chunk adds to the
    squared error. -/

/-- Rows with `t` below the threshold, over a chunk. -/
def lowMask (v53 : IVec S128x1 1) : IVec S128x128 1 :=
  broadcastTo S128x128 (shapeCast S128x1 v53 shapeCasts_S128x1_S128x1) broadcasts_S128x1_S128x128

/-- A chunk's `1 / (σ √2)`, clamped above. -/
def invChunk (v51 : FVec F S128x1 .f32) (v53 : IVec S128x1 1) (o' : Vec F S128x128 .f32) (b' : Vec F S1x128 .f32) :
    FVec F S128x128 .f32 :=
  minimumf
    (divf (broadcast S128x128 (Scalar.ofBits .f32 0x3F800000#32))
      (mulf
        (select (lowMask v53) (broadcast S128x128 (Scalar.ofBits .f32 0x3F800000#32))
          (mulf (broadcastTo S128x128 v51 broadcasts_S128x1_S128x128)
            (exp (addf o' (broadcastTo S128x128 (shapeCast S1x128 b' shapeCasts_S1x128_S1x128)
              broadcasts_S1x128_S128x128)))))
        (broadcast S128x128 (Named.named κ "sqrt_two" 0x3FB504F3#32))))
    (broadcast S128x128 (Named.named κ "no_clamp" 0x7149F2CA#32))

/-- The distance of a chunk's neighbouring arguments of `erf`. -/
def dsChunk (v51 : FVec F S128x1 .f32) (v53 : IVec S128x1 1) (o' : Vec F S128x128 .f32) (b' : Vec F S1x128 .f32) :
    FVec F S16x8x128 .f32 :=
  shapeCast S16x8x128
    (shapeCast S16x8x128
      (mulf (broadcast S128x128 (Scalar.ofBits .f32 0x3C800000#32)) (invChunk v51 v53 o' b'))
      shapeCasts_S128x128_S16x8x128) shapeCasts_S16x8x128_S16x8x128

/-- A chunk's argument of `erf` at the lowest bin edge. -/
def z0Chunk (v47 v51 : FVec F S128x1 .f32) (v53 : IVec S128x1 1) (o : Vec F S128x128 .f32) (b : Vec F S1x128 .f32)
    (o' : Vec F S128x128 .f32) (b' : Vec F S1x128 .f32) (mu : Vec F S128x128 .f32) : FVec F S16x8x128 .f32 :=
  shapeCast S16x8x128
    (shapeCast S16x8x128
      (mulf
        (subf (broadcast S128x128 (Scalar.ofBits .f32 0xBF800000#32))
          (select (lowMask v53) (broadcast S128x128 (Scalar.ofBits .f32 0x00000000#32))
            (subf (mulf mu (broadcastTo S128x128 v47 broadcasts_S128x1_S128x128))
              (mulf (broadcastTo S128x128 v51 broadcasts_S128x1_S128x128)
                (addf o (broadcastTo S128x128 (shapeCast S1x128 b shapeCasts_S1x128_S1x128)
                  broadcasts_S1x128_S128x128))))))
        (invChunk v51 v53 o' b'))
      shapeCasts_S128x128_S16x8x128) shapeCasts_S16x8x128_S16x8x128

/-- A chunk's squared error, added to the chunks before. -/
def errStep (acc : FVec F S128x128 .f32) (bigt z d : Vec F S16x8x128 .f32) (x : Vec F S128x128 .f32) :
    FVec F S128x128 .f32 :=
  addf acc
    (mulf
      (subf x
        (addf
          (addf (broadcast S128x128 (Scalar.ofBits .f32 0xBEFE0000#32))
            (mulf (broadcast S128x128 (Scalar.ofBits .f32 0x3C000000#32))
              (subf (erf (shapeCast S128x128 z shapeCasts_S16x8x128_S128x128))
                (shapeCast S128x128 bigt shapeCasts_S16x8x128_S128x128))))
          (mulf (broadcast S128x128 (Scalar.ofBits .f32 0x3EFE0000#32))
            (erf (addf (shapeCast S128x128 z shapeCasts_S16x8x128_S128x128)
              (mulf (broadcast S128x128 (Scalar.ofBits .f32 0x42FE0000#32))
                (shapeCast S128x128 d shapeCasts_S16x8x128_S128x128)))))))
      (subf x
        (addf
          (addf (broadcast S128x128 (Scalar.ofBits .f32 0xBEFE0000#32))
            (mulf (broadcast S128x128 (Scalar.ofBits .f32 0x3C000000#32))
              (subf (erf (shapeCast S128x128 z shapeCasts_S16x8x128_S128x128))
                (shapeCast S128x128 bigt shapeCasts_S16x8x128_S128x128))))
          (mulf (broadcast S128x128 (Scalar.ofBits .f32 0x3EFE0000#32))
            (erf (addf (shapeCast S128x128 z shapeCasts_S16x8x128_S128x128)
              (mulf (broadcast S128x128 (Scalar.ofBits .f32 0x42FE0000#32))
                (shapeCast S128x128 d shapeCasts_S16x8x128_S128x128))))))))

/-- The `n`-th group of eight arguments of `erf`, by repeated addition. -/
def zs (zb db : FVec F S8x128 .f32) : ℕ → FVec F S8x128 .f32
  | 0 => addf (mulf k0_pay1237 db) zb
  | n + 1 => addf (zs zb db n) (mulf (broadcast S8x128 (Scalar.ofBits .f32 0x41000000#32)) db)

/-- `erf` of two groups of eight arguments. -/
def erf16 (a b : FVec F S8x128 .f32) : FVec F S16x128 .bf16 :=
  erf (truncf .bf16 (concatenate S16x128 0 [⟨S8x128, a⟩, ⟨S8x128, b⟩] concatenates_S8x128_S8x128_S16x128_d0)
    bitsLt_bf16_f32)

/-- One row's sum of 128 values of `erf`. -/
def rowSum (zb db : FVec F S8x128 .f32) : FVec F S1x128 .f32 :=
  shapeCast S1x128
    (multiReduction .add [0] S128
      (addf
        (addf
          (addf
            (extf .f32 (addf (erf16 (zs zb db 0) (zs zb db 1)) (erf16 (zs zb db 2) (zs zb db 3))) bitsLt_bf16_f32)
            (extf .f32 (addf (erf16 (zs zb db 4) (zs zb db 5)) (erf16 (zs zb db 6) (zs zb db 7))) bitsLt_bf16_f32))
          (extf .f32 (addf (erf16 (zs zb db 8) (zs zb db 9)) (erf16 (zs zb db 10) (zs zb db 11))) bitsLt_bf16_f32))
        (extf .f32 (addf (erf16 (zs zb db 12) (zs zb db 13)) (erf16 (zs zb db 14) (zs zb db 15))) bitsLt_bf16_f32))
      0x00000000#32 reduces_S16x128_S128 (.inl rfl) rfl) shapeCasts_S128_S1x128

/-- One row of a group of eight, repeated eight times. -/
def rowOf (v : Vec F S1x8x128 .f32) (off : Fin 2 → ℕ) (h : S8x128.Slices off S1x128) : FVec F S8x128 .f32 :=
  broadcastTo S8x128
    (shapeCast S1x128 (extractStridedSlice S1x128 off (shapeCast S8x128 v shapeCasts_S1x8x128_S8x128) h)
      shapeCasts_S1x128_S1x128) broadcasts_S1x128_S8x128

/-- The sums of eight rows, as one trip stores them. -/
def rowPay (z d : Vec F S1x8x128 .f32) : FVec F S1x8x128 .f32 :=
  shapeCast S1x8x128
    (shapeCast S1x8x128
      (concatenate S8x128 0
        [⟨S1x128, rowSum (rowOf z ![0, 0] slices_S8x128_o0_0_S1x128) (rowOf d ![0, 0] slices_S8x128_o0_0_S1x128)⟩,
         ⟨S1x128, rowSum (rowOf z ![1, 0] slices_S8x128_o1_0_S1x128) (rowOf d ![1, 0] slices_S8x128_o1_0_S1x128)⟩,
         ⟨S1x128, rowSum (rowOf z ![2, 0] slices_S8x128_o2_0_S1x128) (rowOf d ![2, 0] slices_S8x128_o2_0_S1x128)⟩,
         ⟨S1x128, rowSum (rowOf z ![3, 0] slices_S8x128_o3_0_S1x128) (rowOf d ![3, 0] slices_S8x128_o3_0_S1x128)⟩,
         ⟨S1x128, rowSum (rowOf z ![4, 0] slices_S8x128_o4_0_S1x128) (rowOf d ![4, 0] slices_S8x128_o4_0_S1x128)⟩,
         ⟨S1x128, rowSum (rowOf z ![5, 0] slices_S8x128_o5_0_S1x128) (rowOf d ![5, 0] slices_S8x128_o5_0_S1x128)⟩,
         ⟨S1x128, rowSum (rowOf z ![6, 0] slices_S8x128_o6_0_S1x128) (rowOf d ![6, 0] slices_S8x128_o6_0_S1x128)⟩,
         ⟨S1x128, rowSum (rowOf z ![7, 0] slices_S8x128_o7_0_S1x128) (rowOf d ![7, 0] slices_S8x128_o7_0_S1x128)⟩]
        concatenates_S1x128_S1x128_S1x128_S1x128_S1x128_S1x128_S1x128_S1x128_S8x128_d0)
      shapeCasts_S8x128_S1x8x128) shapeCasts_S1x8x128_S1x8x128

/-- The piece one trip stores, from the whole of the two scratch buffers it reads. -/
def rowPiece (z d : S16x8x1024.Idx → Elt F .f32) (off : Fin 3 → ℕ)
    (inb : ∀ a : Fin 3, off a + S1x8x128.size a ≤ S16x8x1024.size a) : View.Piece (Elt F) S16x8x1024 .f32 :=
  ⟨Rect.unit (s := S16x8x1024) off S1x8x128.size inb,
    rowPay (VecWindow.window z off S1x8x128.size inb) (VecWindow.window d off S1x8x128.size inb)⟩

/-- A group of eight rows of a chunk lies inside the scratch buffers. -/
theorem row_inb (k : Fin 16) (c : Fin 8) (a : Fin 3) :
    (![k.val, 0, 128 * c.val] : Fin 3 → ℕ) a + S1x8x128.size a ≤ S16x8x1024.size a := by
  have hk := k.isLt
  have hc := c.isLt
  match a with
  | 0 => show k.val + 1 ≤ 16; omega
  | 1 => show 0 + 8 ≤ 8; omega
  | 2 => show 128 * c.val + 128 ≤ 1024; omega

/-- The piece stored for the group `k` of eight rows of the chunk `c`. -/
def rowPieceAt (z d : S16x8x1024.Idx → Elt F .f32) (k : Fin 16) (c : Fin 8) : View.Piece (Elt F) S16x8x1024 .f32 :=
  rowPiece z d ![k.val, 0, 128 * c.val] (row_inb k c)

omit [Named F] in
theorem rowPiece_eq (z d : S16x8x1024.Idx → Elt F .f32) {off : Fin 3 → ℕ} {inb} {k : Fin 16} {c : Fin 8}
    (h : off = ![k.val, 0, 128 * c.val]) : rowPiece z d off inb = rowPieceAt z d k c := by
  subst h; rfl

omit [Named F] in
/-- The pieces a counted loop over sixteen groups has stored, one a trip. -/
theorem mem_loop (z d : S16x8x1024.Idx → Elt F .f32) (c : Fin 8) {n : ℕ} (hn : n = 16) (off : Fin n → Fin 3 → ℕ)
    (inb : ∀ k, ∀ a : Fin 3, off k a + S1x8x128.size a ≤ S16x8x1024.size a)
    (hoff : ∀ k, off k = ![k.val, 0, 128 * c.val]) (pb : ℕ → List (View.Piece (Elt F) S16x8x1024 .f32)) (h0 : pb 0 = [])
    (hs : ∀ k : Fin n, pb (k.val + 1) = [rowPiece z d (off k) (inb k)] ++ pb k.val) (p : View.Piece (Elt F) S16x8x1024 .f32) :
    p ∈ pb 16 ↔ ∃ k : Fin 16, p = rowPieceAt z d k c := by
  subst hn
  have key : ∀ m, m ≤ 16 → (p ∈ pb m ↔ ∃ k : Fin 16, k.val < m ∧ p = rowPieceAt z d k c) := by
    intro m
    induction m with
    | zero => intro _; simp [h0]
    | succ m ih =>
      intro hm
      have e := hs ⟨m, hm⟩
      rw [show pb (m + 1) = _ from e, List.mem_append, ih (by omega), List.mem_singleton,
        rowPiece_eq z d (hoff ⟨m, hm⟩)]
      constructor
      · rintro (h | ⟨k, hk, h⟩)
        · exact ⟨⟨m, hm⟩, Nat.lt_succ_self m, h⟩
        · exact ⟨k, by omega, h⟩
      · rintro ⟨k, hk, h⟩
        rcases Nat.lt_succ_iff_lt_or_eq.mp hk with hk | hk
        · exact .inr ⟨k, hk, h⟩
        · exact .inl (by rw [h]; congr 1; exact Fin.ext hk)
  rw [key 16 le_rfl]
  exact ⟨fun ⟨k, _, h⟩ => ⟨k, h⟩, fun ⟨k, h⟩ => ⟨k, k.isLt, h⟩⟩

/-- The pieces loop 1 stores. -/
theorem mem_pb1 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X Y p :
    p ∈ pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X Y 16 ↔
      ∃ k : Fin 16, p = rowPieceAt (View.read (Elt F) arg12.view X) (View.read (Elt F) arg13.view Y) k 0 :=
  mem_loop _ _ 0 (by decide) k0_off1 k0_off1_inb (by decide) _ rfl
    (fun k => by rw [pb_k0_t1_succ]; unfold tripL_k0_t1 trip_k0_t1; rfl) p

/-- The pieces loop 2 stores. -/
theorem mem_pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X Y p :
    p ∈ pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X Y 16 ↔
      ∃ k : Fin 16, p = rowPieceAt (View.read (Elt F) arg12.view X) (View.read (Elt F) arg13.view Y) k 1 :=
  mem_loop _ _ 1 (by decide) k0_off2 k0_off2_inb (by decide) _ rfl
    (fun k => by rw [pb_k0_t2_succ]; unfold tripL_k0_t2 trip_k0_t2; rfl) p

/-- The pieces loop 3 stores. -/
theorem mem_pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X Y p :
    p ∈ pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X Y 16 ↔
      ∃ k : Fin 16, p = rowPieceAt (View.read (Elt F) arg12.view X) (View.read (Elt F) arg13.view Y) k 2 :=
  mem_loop _ _ 2 (by decide) k0_off3 k0_off3_inb (by decide) _ rfl
    (fun k => by rw [pb_k0_t3_succ]; unfold tripL_k0_t3 trip_k0_t3; rfl) p

/-- The pieces loop 4 stores. -/
theorem mem_pb4 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X Y p :
    p ∈ pb_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X Y 16 ↔
      ∃ k : Fin 16, p = rowPieceAt (View.read (Elt F) arg12.view X) (View.read (Elt F) arg13.view Y) k 3 :=
  mem_loop _ _ 3 (by decide) k0_off4 k0_off4_inb (by decide) _ rfl
    (fun k => by rw [pb_k0_t4_succ]; unfold tripL_k0_t4 trip_k0_t4; rfl) p

/-- The pieces loop 5 stores. -/
theorem mem_pb5 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X Y p :
    p ∈ pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X Y 16 ↔
      ∃ k : Fin 16, p = rowPieceAt (View.read (Elt F) arg12.view X) (View.read (Elt F) arg13.view Y) k 4 :=
  mem_loop _ _ 4 (by decide) k0_off5 k0_off5_inb (by decide) _ rfl
    (fun k => by rw [pb_k0_t5_succ]; unfold tripL_k0_t5 trip_k0_t5; rfl) p

/-- The pieces loop 6 stores. -/
theorem mem_pb6 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X Y p :
    p ∈ pb_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X Y 16 ↔
      ∃ k : Fin 16, p = rowPieceAt (View.read (Elt F) arg12.view X) (View.read (Elt F) arg13.view Y) k 5 :=
  mem_loop _ _ 5 (by decide) k0_off6 k0_off6_inb (by decide) _ rfl
    (fun k => by rw [pb_k0_t6_succ]; unfold tripL_k0_t6 trip_k0_t6; rfl) p

/-- The pieces loop 7 stores. -/
theorem mem_pb7 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X Y p :
    p ∈ pb_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X Y 16 ↔
      ∃ k : Fin 16, p = rowPieceAt (View.read (Elt F) arg12.view X) (View.read (Elt F) arg13.view Y) k 6 :=
  mem_loop _ _ 6 (by decide) k0_off7 k0_off7_inb (by decide) _ rfl
    (fun k => by rw [pb_k0_t7_succ]; unfold tripL_k0_t7 trip_k0_t7; rfl) p

/-- The pieces loop 8 stores. -/
theorem mem_pb8 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X Y p :
    p ∈ pb_k0_t8 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X Y 16 ↔
      ∃ k : Fin 16, p = rowPieceAt (View.read (Elt F) arg12.view X) (View.read (Elt F) arg13.view Y) k 7 :=
  mem_loop _ _ 7 (by decide) k0_off8 k0_off8_inb (by decide) _ rfl
    (fun k => by rw [pb_k0_t8_succ]; unfold tripL_k0_t8 trip_k0_t8; rfl) p

end Cert.KernelIdeal.Body
end
-- ==== Proof.BodyValue.lean ====
module

public import proofs.«01_k».proof.Proof.Chunk
public import Idealize.ShloMosaic.Lib.WholeRead
public import Idealize.ShloMosaic.Lib.ValueIdx

@[expose] public section

set_option maxRecDepth 16384

noncomputable section

namespace Cert.KernelIdeal.Body

open Cert.KernelIdeal.Gen
open Idealize.ShloMosaic Idealize.ShloMosaic.ValueIdx

variable {F : FTy → Type} [FloatOps F] [Named F]

/-! What one run of the kernel's body leaves in its output block, as a function of its seven inputs alone. -/

/-- A window of a whole shape's own sizes is the whole. -/
theorem window_full {α : Type} {s : Shape} (x : s.Idx → α) {off : Fin s.rank → ℕ} (inb : ∀ a, off a + s.size a ≤ s.size a) :
    VecWindow.window x off s.size inb = x := by
  funext y
  exact congrArg x (Rect.emb_unit_full inb y)

/-- The same for a rank-two array, its sizes written out. -/
theorem window_full2 {α : Type} {m n : ℕ} (x : (⟨2, ![m, n]⟩ : Shape).Idx → α) {off : Fin 2 → ℕ} (inb) :
    VecWindow.window (s := ⟨2, ![m, n]⟩) x off ![m, n] inb = x := window_full x inb

/-- A store of a rank-two array's own sizes leaves the payload. -/
theorem read_full2 {sig : RefSig} {κ : Kind} {sp : Space} {m n : ℕ} {e : EltTy} {Val : EltTy → Type}
    (v : View sig κ sp ⟨2, ![m, n]⟩ e) (f : v.ty.Contents Val) {off : Fin 2 → ℕ} (inb)
    (w : (⟨2, ![m, n]⟩ : Shape).Idx → Val e) :
    v.read Val (v.writes Val f [⟨Rect.unit (s := ⟨2, ![m, n]⟩) off ![m, n] inb, w⟩]) = w :=
  View.read_writes_full v f inb w []

/-- A load at a rectangle reads a window of what the view reads. -/
theorem readAt_window {sig : RefSig} {κ : Kind} {sp : Space} {s : Shape} {e : EltTy} {Val : EltTy → Type}
    (v : View sig κ sp s e) (f : v.ty.Contents Val) {off size : Fin s.rank → ℕ} (inb : ∀ a, off a + size a ≤ s.size a) :
    v.readAt Val (Rect.unit off size inb).toLoadRect f = VecWindow.window (v.read Val f) off size inb := rfl

/-- The chunk `c` of 128 columns lies inside an array of `n ≥ o + 1024` columns. -/
theorem cols_inb {n : ℕ} (m o : ℕ) (h : o + 1024 ≤ n) (c : Fin 8) (a : Fin 2) :
    (![0, o + 128 * c.val] : Fin 2 → ℕ) a + (⟨2, ![m, 128]⟩ : Shape).size a ≤ (⟨2, ![m, n]⟩ : Shape).size a := by
  have hc := c.isLt
  match a with
  | 0 => show 0 + m ≤ m; omega
  | 1 => show o + 128 * c.val + 128 ≤ n; omega

/-- The chunk `c` of 128 columns, counted from the column `o`. -/
def cols {α : Type} {m n : ℕ} (x : (⟨2, ![m, n]⟩ : Shape).Idx → α) (o : ℕ) (h : o + 1024 ≤ n) (c : Fin 8) :
    (⟨2, ![m, 128]⟩ : Shape).Idx → α :=
  VecWindow.window (s := ⟨2, ![m, n]⟩) x ![0, o + 128 * c.val] (⟨2, ![m, 128]⟩ : Shape).size (cols_inb m o h c)

/-- A block of 128 columns lies inside a slab. -/
theorem chunk_inb (c : Fin 8) (a : Fin 3) :
    (![0, 0, 128 * c.val] : Fin 3 → ℕ) a + S16x8x128.size a ≤ S16x8x1024.size a := by
  have hc := c.isLt
  match a with
  | 0 => show 0 + 16 ≤ 16; omega
  | 1 => show 0 + 8 ≤ 8; omega
  | 2 => show 128 * c.val + 128 ≤ 1024; omega

/-- The chunk of a column. -/
def chunkOf (y : Fin 1024) : Fin 8 := ⟨y.val / 128, by have := y.isLt; omega⟩
/-- A column within its chunk. -/
def laneOf (y : Fin 1024) : Fin 128 := ⟨y.val % 128, Nat.mod_lt _ (by omega)⟩

/-- Eight chunks side by side. -/
def spread {α : Type} (G : Fin 8 → S16x8x128.Idx → α) : S16x8x1024.Idx → α :=
  fun y => G (chunkOf (y 2)) (ix3 (y 0) (y 1) (laneOf (y 2)))

/-- Reading block `c` of eight blocks laid side by side gives block `c`. -/
theorem window_spread {α : Type} (G : Fin 8 → S16x8x128.Idx → α) (c : Fin 8) :
    VecWindow.window (spread G) ![0, 0, 128 * c.val] S16x8x128.size (chunk_inb c) = G c := by
  funext x
  obtain ⟨a, b, l, rfl⟩ : ∃ a b l, x = ix3 a b l := ⟨_, _, _, eq_ix3 x⟩
  have hl := l.isLt
  have e2 : (((Rect.unit (s := S16x8x1024) ![0, 0, 128 * c.val] S16x8x128.size (chunk_inb c)).emb (ix3 a b l)) 2).val
      = 128 * c.val + 1 * l.val := rfl
  have h1 : chunkOf (((Rect.unit (s := S16x8x1024) ![0, 0, 128 * c.val] S16x8x128.size (chunk_inb c)).emb (ix3 a b l)) 2) = c :=
    Fin.ext (by show _ / 128 = _; rw [e2]; omega)
  have h2 : laneOf (((Rect.unit (s := S16x8x1024) ![0, 0, 128 * c.val] S16x8x128.size (chunk_inb c)).emb (ix3 a b l)) 2) = l :=
    Fin.ext (by show _ % 128 = _; rw [e2]; omega)
  show G (chunkOf _) (ix3 _ _ (laneOf _)) = _
  rw [h1, h2]
  refine congrArg (G c) (funext fun e => ?_)
  match e with
  | 0 => exact Fin.ext (by show 0 + 1 * a.val = a.val; omega)
  | 1 => exact Fin.ext (by show 0 + 1 * b.val = b.val; omega)
  | 2 => rfl

/-- The piece that stores the chunk `c`. -/
def colPiece {Val : EltTy → Type} {e : EltTy} (G : Fin 8 → S16x8x128.Idx → Val e) (c : Fin 8) : View.Piece Val S16x8x1024 e :=
  ⟨Rect.unit (s := S16x8x1024) ![0, 0, 128 * c.val] S16x8x128.size (chunk_inb c), G c⟩

/-- After the stores of all eight chunks the view reads them side by side. -/
theorem read_cols {sig : RefSig} {κ : Kind} {sp : Space} {e : EltTy} {Val : EltTy → Type}
    (v : View sig κ sp S16x8x1024 e) (f : v.ty.Contents Val) (G : Fin 8 → S16x8x128.Idx → Val e) :
    v.read Val (v.writes Val f ([7, 6, 5, 4, 3, 2, 1, 0].map (colPiece G))) = spread G := by
  funext y
  refine View.read_writes_apply_of_pieces v f (spread G) _ ?_ y ?_
  · intro p hp x
    obtain ⟨c, -, rfl⟩ := List.mem_map.1 hp
    exact (congrFun (window_spread G c) x).symm
  · refine ⟨colPiece G (chunkOf (y 2)), List.mem_map.2 ⟨_, ?_, rfl⟩, ?_⟩
    · generalize chunkOf (y 2) = c
      revert c; decide
    · refine (Rect.mem_set_unit (inb := chunk_inb (chunkOf (y 2)))).2 fun a => ?_
      match a with
      | 0 => exact ⟨Nat.zero_le _, by have := (y 0).isLt; show _ < 0 + 16; simpa using this⟩
      | 1 => exact ⟨Nat.zero_le _, by have := (y 1).isLt; show _ < 0 + 8; simpa using this⟩
      | 2 =>
        have h : (y 2).val < 1024 := (y 2).isLt
        exact ⟨by show 128 * ((y 2).val / 128) ≤ (y 2).val; omega,
          by show (y 2).val < 128 * ((y 2).val / 128) + 128; omega⟩

/-- The sums of one group of eight rows of one chunk. -/
def bigAt (z d : S16x8x1024.Idx → Elt F .f32) (k : Fin 16) (c : Fin 8) : FVec F S1x8x128 .f32 :=
  rowPay (VecWindow.window z ![k.val, 0, 128 * c.val] S1x8x128.size (row_inb k c))
    (VecWindow.window d ![k.val, 0, 128 * c.val] S1x8x128.size (row_inb k c))

/-- The sums of all rows. -/
def bigV (z d : S16x8x1024.Idx → Elt F .f32) : S16x8x1024.Idx → Elt F .f32 :=
  fun y => bigAt z d (y 0) (chunkOf (y 2)) (ix3 0 (y 1) (laneOf (y 2)))

/-- After every group of every chunk has been stored the view reads all the sums. -/
theorem read_rows {sig : RefSig} {κ : Kind} {sp : Space} (v : View sig κ sp S16x8x1024 .f32) (f : v.ty.Contents (Elt F))
    (z d : S16x8x1024.Idx → Elt F .f32) (L : List (View.Piece (Elt F) S16x8x1024 .f32))
    (hL : ∀ p, p ∈ L ↔ ∃ k c, p = rowPieceAt z d k c) : v.read (Elt F) (v.writes (Elt F) f L) = bigV z d := by
  funext y
  refine View.read_writes_apply_of_pieces v f (bigV z d) _ ?_ y ?_
  · intro p hp x
    obtain ⟨k, c, rfl⟩ := (hL p).1 hp
    obtain ⟨a, b, l, rfl⟩ : ∃ a b l, x = ix3 a b l := ⟨_, _, _, eq_ix3 (n0 := 1) (n1 := 8) (n2 := 128) x⟩
    have hl := l.isLt
    have e0 : ((rowPieceAt z d k c).1.emb (ix3 a b l)) 0 = k :=
      Fin.ext (by have := a.isLt; show k.val + 1 * a.val = k.val; omega)
    have e1 : ((rowPieceAt z d k c).1.emb (ix3 a b l)) 1 = b := Fin.ext (by show 0 + 1 * b.val = b.val; omega)
    have h1 : chunkOf (((rowPieceAt z d k c).1.emb (ix3 a b l)) 2) = c :=
      Fin.ext (by show (128 * c.val + 1 * l.val) / 128 = _; omega)
    have h2 : laneOf (((rowPieceAt z d k c).1.emb (ix3 a b l)) 2) = l :=
      Fin.ext (by show (128 * c.val + 1 * l.val) % 128 = _; omega)
    show bigAt z d k c (ix3 a b l) = bigAt z d (((rowPieceAt z d k c).1.emb (ix3 a b l)) 0) (chunkOf _) (ix3 0 _ (laneOf _))
    rw [e0, e1, h1, h2, show a = 0 from Subsingleton.elim _ _]
  · refine ⟨rowPieceAt z d (y 0) (chunkOf (y 2)), (hL _).2 ⟨_, _, rfl⟩, ?_⟩
    refine (Rect.mem_set_unit (inb := row_inb (y 0) (chunkOf (y 2)))).2 fun a => ?_
    match a with
    | 0 => exact ⟨le_refl (y 0).val, Nat.lt_succ_self (y 0).val⟩
    | 1 => exact ⟨Nat.zero_le _, by have := (y 1).isLt; show _ < 0 + 8; simpa using this⟩
    | 2 =>
      have h : (y 2).val < 1024 := (y 2).isLt
      exact ⟨by show 128 * ((y 2).val / 128) ≤ (y 2).val; omega,
        by show (y 2).val < 128 * ((y 2).val / 128) + 128; omega⟩

/-- The chunk `c` of the sums, or of any array of the scratch buffers' shape. -/
def chunk {α : Type} (x : S16x8x1024.Idx → α) (c : Fin 8) : S16x8x128.Idx → α :=
  VecWindow.window x ![0, 0, 128 * c.val] S16x8x128.size (chunk_inb c)

section
variable (x0 : Vec F S128x1024 .f32) (x1 : Vec F S128x1 .f32) (x2 : Vec F S128x1024 .f32) (x3 : Vec F S1025x2048 .f32) (x4 : Vec F S1x2048 .f32) (x5 : Vec F S2048x2048 .f32) (x6 : Vec F S1x2048 .f32)

/-- The noised input. -/
def muV : FVec F S128x1024 .f32 := k0_pay1187 x1 x0 x2
/-- The second layer's outputs, before the bias. -/
def oV : FVec F S128x2048 .f32 :=
  k0_pay1190 (k0_pay1189 (k0_pay1188 x1 (muV x0 x1 x2)
    (VecWindow.window x3 ![0, 0] S1024x2048.size inb_S1025x2048_S1024x2048_0_0)
    (VecWindow.window x3 ![1024, 0] S1x2048.size inb_S1025x2048_S1x2048_1024_0) x4)) x5
/-- The steps of a chunk. -/
def dV (c : Fin 8) : FVec F S16x8x128 .f32 :=
  dsChunk (k0_pay1192 (k0_pay1186 x1)) (k0_pay1193 x1)
    (cols (oV x0 x1 x2 x3 x4 x5) 1024 le_rfl c) (cols x6 1024 le_rfl c)
/-- The first arguments of `erf` of a chunk. -/
def zV (c : Fin 8) : FVec F S16x8x128 .f32 :=
  z0Chunk (k0_pay1191 (k0_pay1186 x1)) (k0_pay1192 (k0_pay1186 x1)) (k0_pay1193 x1)
    (cols (oV x0 x1 x2 x3 x4 x5) 0 (by omega) c) (cols x6 0 (by omega) c)
    (cols (oV x0 x1 x2 x3 x4 x5) 1024 le_rfl c) (cols x6 1024 le_rfl c) (cols (muV x0 x1 x2) 0 (by omega) c)
/-- The squared error, summed over the chunks before the `n`-th. -/
def accV : ℕ → FVec F S128x128 .f32
  | 0 => k0_pay1239
  | n + 1 => errStep (accV n) (chunk (bigV (spread (zV x0 x1 x2 x3 x4 x5 x6)) (spread (dV x0 x1 x2 x3 x4 x5 x6))) (Fin.ofNat 8 n))
      (chunk (spread (zV x0 x1 x2 x3 x4 x5 x6)) (Fin.ofNat 8 n)) (chunk (spread (dV x0 x1 x2 x3 x4 x5 x6)) (Fin.ofNat 8 n)) (cols x0 0 (by omega) (Fin.ofNat 8 n))
/-- The body's output block. -/
def outV : FVec F S1x1x128 .f32 := k0_pay1 (k0_pay1238 x1) (accV x0 x1 x2 x3 x4 x5 x6 8)
end

/-- The first scratch buffer holds the noised input. -/
theorem read_mu (c : Dev nD) (arg1 : Memref sig .tc .vmem S128x1024 .f32) (harg1 : arg1.IsWhole) (arg2 : Memref sig .tc .vmem S128x1 .f32) (harg2 : arg2.IsWhole) (arg3 : Memref sig .tc .vmem S128x1024 .f32) (harg3 : arg3.IsWhole) (arg9 : Memref sig .tc .vmem S128x1024 .f32)
    (x0 : Vec F S128x1024 .f32) (x1 : Vec F S128x1 .f32) (x2 : Vec F S128x1024 .f32) :
    arg9.view.read (Elt F) (arg9.view.writes (Elt F) arg9.view.junk (bodyRun.sl.HS0_1 c arg1 harg1 arg2 harg2 arg3 harg3 x0 x1 x2)) = muV x0 x1 x2 := by
  simp only [bodyRun.sl.HS0_1, View.readCov, readAt_window, Memref.IsWhole.read_unread, read_full2, window_full2]
  rfl

/-- The third scratch buffer holds the second layer's outputs. -/
theorem read_o (c : Dev nD) (arg1 : Memref sig .tc .vmem S128x1024 .f32) (harg1 : arg1.IsWhole) (arg2 : Memref sig .tc .vmem S128x1 .f32) (harg2 : arg2.IsWhole) (arg3 : Memref sig .tc .vmem S128x1024 .f32) (harg3 : arg3.IsWhole) (arg4 : Memref sig .tc .vmem S1025x2048 .f32) (harg4 : arg4.IsWhole) (arg5 : Memref sig .tc .vmem S1x2048 .f32) (harg5 : arg5.IsWhole) (arg6 : Memref sig .tc .vmem S2048x2048 .f32) (harg6 : arg6.IsWhole) (arg9 : Memref sig .tc .vmem S128x1024 .f32) (arg10 : Memref sig .tc .vmem S128x2048 .bf16) (arg11 : Memref sig .tc .vmem S128x2048 .f32)
    (x0 : Vec F S128x1024 .f32) (x1 : Vec F S128x1 .f32) (x2 : Vec F S128x1024 .f32) (x3 : Vec F S1025x2048 .f32) (x4 : Vec F S1x2048 .f32) (x5 : Vec F S2048x2048 .f32) :
    arg11.view.read (Elt F) (arg11.view.writes (Elt F) arg11.view.junk (bodyRun.sl.HS2_1 c arg1 harg1 arg2 harg2 arg3 harg3 arg4 harg4 arg5 harg5 arg6 harg6 arg9 arg10 x0 x1 x2 x3 x4 x5)) = oV x0 x1 x2 x3 x4 x5 := by
  simp only [bodyRun.sl.HS2_1, bodyRun.sl.v40, bodyRun.sl.HS1_1, bodyRun.sl.r_2, bodyRun.sl.v19, View.readCov, readAt_window, read_mu,
    Memref.IsWhole.read_unread, read_full2, window_full2]
  rfl

set_option maxHeartbeats 4000000 in
/-- The fourth scratch buffer holds every chunk's first arguments of `erf`. -/
theorem read_z (c : Dev nD) (arg1 : Memref sig .tc .vmem S128x1024 .f32) (harg1 : arg1.IsWhole) (arg2 : Memref sig .tc .vmem S128x1 .f32) (harg2 : arg2.IsWhole) (arg3 : Memref sig .tc .vmem S128x1024 .f32) (harg3 : arg3.IsWhole) (arg4 : Memref sig .tc .vmem S1025x2048 .f32) (harg4 : arg4.IsWhole) (arg5 : Memref sig .tc .vmem S1x2048 .f32) (harg5 : arg5.IsWhole) (arg6 : Memref sig .tc .vmem S2048x2048 .f32) (harg6 : arg6.IsWhole) (arg7 : Memref sig .tc .vmem S1x2048 .f32) (harg7 : arg7.IsWhole) (arg9 : Memref sig .tc .vmem S128x1024 .f32) (arg10 : Memref sig .tc .vmem S128x2048 .bf16) (arg11 : Memref sig .tc .vmem S128x2048 .f32) (arg12 : Memref sig .tc .vmem S16x8x1024 .f32)
    (x0 : Vec F S128x1024 .f32) (x1 : Vec F S128x1 .f32) (x2 : Vec F S128x1024 .f32) (x3 : Vec F S1025x2048 .f32) (x4 : Vec F S1x2048 .f32) (x5 : Vec F S2048x2048 .f32) (x6 : Vec F S1x2048 .f32) :
    arg12.view.read (Elt F) (arg12.view.writes (Elt F) arg12.view.junk (bodyRun.sl.HS3_8 c arg1 harg1 arg2 harg2 arg3 harg3 arg4 harg4 arg5 harg5 arg6 harg6 arg7 harg7 arg9 arg10 arg11 x0 x1 x2 x3 x4 x5 x6)) = spread (zV x0 x1 x2 x3 x4 x5 x6) := by
  refine Eq.trans (congrArg (fun L => arg12.view.read (Elt F) (arg12.view.writes (Elt F) arg12.view.junk L)) ?_)
    (read_cols (Val := Elt F) (e := .f32) arg12.view arg12.view.junk (zV x0 x1 x2 x3 x4 x5 x6))
  simp only [bodyRun.sl.HS3_8, bodyRun.sl.r, bodyRun.sl.r_1, bodyRun.sl.r_3, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24,
    bodyRun.sl.v54, bodyRun.sl.v59, bodyRun.sl.v64, bodyRun.sl.v100, bodyRun.sl.v105, bodyRun.sl.v110, bodyRun.sl.v146, bodyRun.sl.v151, bodyRun.sl.v156, bodyRun.sl.v192, bodyRun.sl.v197, bodyRun.sl.v202, bodyRun.sl.v238, bodyRun.sl.v243, bodyRun.sl.v248, bodyRun.sl.v284, bodyRun.sl.v289, bodyRun.sl.v294, bodyRun.sl.v330, bodyRun.sl.v335, bodyRun.sl.v340, bodyRun.sl.v376, bodyRun.sl.v381, bodyRun.sl.v386,
    View.readCov, readAt_window, read_mu, read_o, Memref.IsWhole.read_unread, window_full2]
  rfl

set_option maxHeartbeats 4000000 in
/-- The fifth scratch buffer holds every chunk's steps. -/
theorem read_d (c : Dev nD) (arg1 : Memref sig .tc .vmem S128x1024 .f32) (harg1 : arg1.IsWhole) (arg2 : Memref sig .tc .vmem S128x1 .f32) (harg2 : arg2.IsWhole) (arg3 : Memref sig .tc .vmem S128x1024 .f32) (harg3 : arg3.IsWhole) (arg4 : Memref sig .tc .vmem S1025x2048 .f32) (harg4 : arg4.IsWhole) (arg5 : Memref sig .tc .vmem S1x2048 .f32) (harg5 : arg5.IsWhole) (arg6 : Memref sig .tc .vmem S2048x2048 .f32) (harg6 : arg6.IsWhole) (arg7 : Memref sig .tc .vmem S1x2048 .f32) (harg7 : arg7.IsWhole) (arg9 : Memref sig .tc .vmem S128x1024 .f32) (arg10 : Memref sig .tc .vmem S128x2048 .bf16) (arg11 : Memref sig .tc .vmem S128x2048 .f32) (arg13 : Memref sig .tc .vmem S16x8x1024 .f32)
    (x0 : Vec F S128x1024 .f32) (x1 : Vec F S128x1 .f32) (x2 : Vec F S128x1024 .f32) (x3 : Vec F S1025x2048 .f32) (x4 : Vec F S1x2048 .f32) (x5 : Vec F S2048x2048 .f32) (x6 : Vec F S1x2048 .f32) :
    arg13.view.read (Elt F) (arg13.view.writes (Elt F) arg13.view.junk (bodyRun.sl.HS4_8 c arg1 harg1 arg2 harg2 arg3 harg3 arg4 harg4 arg5 harg5 arg6 harg6 arg7 harg7 arg9 arg10 arg11 x0 x1 x2 x3 x4 x5 x6)) = spread (dV x0 x1 x2 x3 x4 x5 x6) := by
  refine Eq.trans (congrArg (fun L => arg13.view.read (Elt F) (arg13.view.writes (Elt F) arg13.view.junk L)) ?_)
    (read_cols (Val := Elt F) (e := .f32) arg13.view arg13.view.junk (dV x0 x1 x2 x3 x4 x5 x6))
  simp only [bodyRun.sl.HS4_8, bodyRun.sl.r, bodyRun.sl.r_1, bodyRun.sl.r_3, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24,
    bodyRun.sl.v54, bodyRun.sl.v59, bodyRun.sl.v64, bodyRun.sl.v100, bodyRun.sl.v105, bodyRun.sl.v110, bodyRun.sl.v146, bodyRun.sl.v151, bodyRun.sl.v156, bodyRun.sl.v192, bodyRun.sl.v197, bodyRun.sl.v202, bodyRun.sl.v238, bodyRun.sl.v243, bodyRun.sl.v248, bodyRun.sl.v284, bodyRun.sl.v289, bodyRun.sl.v294, bodyRun.sl.v330, bodyRun.sl.v335, bodyRun.sl.v340, bodyRun.sl.v376, bodyRun.sl.v381, bodyRun.sl.v386,
    View.readCov, readAt_window, read_mu, read_o, Memref.IsWhole.read_unread, window_full2]
  rfl

section
variable (acc x x' : FVec F S128x128 .f32) (b z d b' z' d' : FVec F S16x8x128 .f32)

/-! The chunks' squared errors, as the body's text is cut. -/

/-- The first block adds its squared error as `errStep` does. -/
theorem errStep_0 : k0_pay1240 acc b z d x = errStep acc b z d x := rfl
/-- The second and third blocks add theirs, one after the other. -/
theorem errStep_12 : k0_pay1244 acc (k0_pay1242 z d) (k0_pay1243 b z) (FloatOps.ofBits .f32 0xBEFE0000#32) x b' z' d' x'
    = errStep (errStep acc b z d x) b' z' d' x' := rfl
/-- The fourth block adds its squared error. -/
theorem errStep_3 : k0_pay1247 acc (k0_pay1245 b) (k0_pay1246 z) d x = errStep acc b z d x := rfl
/-- The fifth and sixth blocks add theirs, one after the other. -/
theorem errStep_45 : k0_pay1249 acc (k0_pay1248 b z d) x b' z' d' x' = errStep (errStep acc b z d x) b' z' d' x' := rfl
/-- The seventh and eighth blocks add theirs, one after the other. -/
theorem errStep_67 : k0_pay1254 acc (k0_pay1250 b) (k0_pay1251 z) (k0_pay1252 d) (k0_pay1253 z) x b' z' d' x'
    = errStep (errStep acc b z d x) b' z' d' x' := rfl
end

/-- A counted loop over the groups runs sixteen times. -/
theorem trips_eq : Scf.trips 0#32 (Scalar.addi 0#32 16#32) 1#32 = 16 := by decide

set_option maxHeartbeats 4000000 in
/-- The sixth scratch buffer holds every row's sum, whatever it held before. -/
theorem read_big (c : Dev nD) (i : grid0.Coords) (arg1 : Memref sig .tc .vmem S128x1024 .f32) (harg1 : arg1.IsWhole) (arg2 : Memref sig .tc .vmem S128x1 .f32) (harg2 : arg2.IsWhole) (arg3 : Memref sig .tc .vmem S128x1024 .f32) (harg3 : arg3.IsWhole) (arg4 : Memref sig .tc .vmem S1025x2048 .f32) (harg4 : arg4.IsWhole) (arg5 : Memref sig .tc .vmem S1x2048 .f32) (harg5 : arg5.IsWhole) (arg6 : Memref sig .tc .vmem S2048x2048 .f32) (harg6 : arg6.IsWhole) (arg7 : Memref sig .tc .vmem S1x2048 .f32) (harg7 : arg7.IsWhole) (arg8 : Memref sig .tc .vmem S1x1x128 .f32) (harg8 : arg8.IsWhole) (arg9 : Memref sig .tc .vmem S128x1024 .f32) (harg9 : arg9.IsWhole) (arg10 : Memref sig .tc .vmem S128x2048 .bf16) (harg10 : arg10.IsWhole) (arg11 : Memref sig .tc .vmem S128x2048 .f32) (harg11 : arg11.IsWhole) (arg12 : Memref sig .tc .vmem S16x8x1024 .f32) (harg12 : arg12.IsWhole) (arg13 : Memref sig .tc .vmem S16x8x1024 .f32) (harg13 : arg13.IsWhole) (arg14 : Memref sig .tc .vmem S16x8x1024 .f32) (harg14 : arg14.IsWhole)
    (x1 : Vec F S128x1 .f32) (Z : BufTy.Contents (Elt F) arg12.view.ty) (D : BufTy.Contents (Elt F) arg13.view.ty)
    (f : BufTy.Contents (Elt F) arg14.view.ty) :
    arg14.view.read (Elt F) (arg14.view.writes (Elt F) f (pb_k0_t8 Variants.none c none i arg1 harg1 arg2 harg2 arg3 harg3 arg4 harg4 arg5 harg5 arg6 harg6 arg7 harg7 arg8 harg8 arg9 harg9 arg10 harg10 arg11 harg11 arg12 harg12 arg13 harg13 arg14 harg14 x1 Z D 16 ++ (pb_k0_t7 Variants.none c none i arg1 harg1 arg2 harg2 arg3 harg3 arg4 harg4 arg5 harg5 arg6 harg6 arg7 harg7 arg8 harg8 arg9 harg9 arg10 harg10 arg11 harg11 arg12 harg12 arg13 harg13 arg14 harg14 x1 Z D 16 ++ (pb_k0_t6 Variants.none c none i arg1 harg1 arg2 harg2 arg3 harg3 arg4 harg4 arg5 harg5 arg6 harg6 arg7 harg7 arg8 harg8 arg9 harg9 arg10 harg10 arg11 harg11 arg12 harg12 arg13 harg13 arg14 harg14 x1 Z D 16 ++ (pb_k0_t5 Variants.none c none i arg1 harg1 arg2 harg2 arg3 harg3 arg4 harg4 arg5 harg5 arg6 harg6 arg7 harg7 arg8 harg8 arg9 harg9 arg10 harg10 arg11 harg11 arg12 harg12 arg13 harg13 arg14 harg14 x1 Z D 16 ++ (pb_k0_t4 Variants.none c none i arg1 harg1 arg2 harg2 arg3 harg3 arg4 harg4 arg5 harg5 arg6 harg6 arg7 harg7 arg8 harg8 arg9 harg9 arg10 harg10 arg11 harg11 arg12 harg12 arg13 harg13 arg14 harg14 x1 Z D 16 ++ (pb_k0_t3 Variants.none c none i arg1 harg1 arg2 harg2 arg3 harg3 arg4 harg4 arg5 harg5 arg6 harg6 arg7 harg7 arg8 harg8 arg9 harg9 arg10 harg10 arg11 harg11 arg12 harg12 arg13 harg13 arg14 harg14 x1 Z D 16 ++ (pb_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 x1 Z D 16 ++ (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 x1 Z D 16))))))))) =
      bigV (arg12.view.read (Elt F) Z) (arg13.view.read (Elt F) D) := by
  refine read_rows _ _ _ _ _ fun p => ?_
  simp only [List.mem_append, mem_pb1, mem_pb2, mem_pb3, mem_pb4, mem_pb5, mem_pb6, mem_pb7, mem_pb8]
  constructor
  · rintro (⟨k, h⟩ | ⟨k, h⟩ | ⟨k, h⟩ | ⟨k, h⟩ | ⟨k, h⟩ | ⟨k, h⟩ | ⟨k, h⟩ | ⟨k, h⟩) <;> exact ⟨k, _, h⟩
  · rintro ⟨k, c, h⟩
    match c, h with
    | 0, h => exact .inr (.inr (.inr (.inr (.inr (.inr (.inr ⟨k, h⟩))))))
    | 1, h => exact .inr (.inr (.inr (.inr (.inr (.inr (.inl ⟨k, h⟩))))))
    | 2, h => exact .inr (.inr (.inr (.inr (.inr (.inl ⟨k, h⟩)))))
    | 3, h => exact .inr (.inr (.inr (.inr (.inl ⟨k, h⟩))))
    | 4, h => exact .inr (.inr (.inr (.inl ⟨k, h⟩)))
    | 5, h => exact .inr (.inr (.inl ⟨k, h⟩))
    | 6, h => exact .inr (.inl ⟨k, h⟩)
    | 7, h => exact .inl ⟨k, h⟩

set_option maxHeartbeats 4000000 in
/-- The body's run leaves `outV` of its inputs, whatever the scratch buffers held. -/
theorem bodyRun_val (c : Dev nD) (i : grid0.Coords) (arg1 : Memref sig .tc .vmem S128x1024 .f32) (harg1 : arg1.IsWhole) (arg2 : Memref sig .tc .vmem S128x1 .f32) (harg2 : arg2.IsWhole) (arg3 : Memref sig .tc .vmem S128x1024 .f32) (harg3 : arg3.IsWhole) (arg4 : Memref sig .tc .vmem S1025x2048 .f32) (harg4 : arg4.IsWhole) (arg5 : Memref sig .tc .vmem S1x2048 .f32) (harg5 : arg5.IsWhole) (arg6 : Memref sig .tc .vmem S2048x2048 .f32) (harg6 : arg6.IsWhole) (arg7 : Memref sig .tc .vmem S1x2048 .f32) (harg7 : arg7.IsWhole) (arg8 : Memref sig .tc .vmem S1x1x128 .f32) (harg8 : arg8.IsWhole) (arg9 : Memref sig .tc .vmem S128x1024 .f32) (harg9 : arg9.IsWhole) (arg10 : Memref sig .tc .vmem S128x2048 .bf16) (harg10 : arg10.IsWhole) (arg11 : Memref sig .tc .vmem S128x2048 .f32) (harg11 : arg11.IsWhole) (arg12 : Memref sig .tc .vmem S16x8x1024 .f32) (harg12 : arg12.IsWhole) (arg13 : Memref sig .tc .vmem S16x8x1024 .f32) (harg13 : arg13.IsWhole) (arg14 : Memref sig .tc .vmem S16x8x1024 .f32) (harg14 : arg14.IsWhole)
    (x0 : Vec F S128x1024 .f32) (x1 : Vec F S128x1 .f32) (x2 : Vec F S128x1024 .f32) (x3 : Vec F S1025x2048 .f32) (x4 : Vec F S1x2048 .f32) (x5 : Vec F S2048x2048 .f32) (x6 : Vec F S1x2048 .f32) (f : BufTy.Contents (Elt F) arg14.view.ty) :
    (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).1 f = outV x0 x1 x2 x3 x4 x5 x6 := by
  have e : (bodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).1 f
      = k0_pay1 (bodyRun.sl.r_25 c arg2 harg2 x1) (bodyRun.sl.r_39 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 f) := rfl
  refine e.trans ?_
  clear e
  simp only [bodyRun.sl.r, bodyRun.sl.r_25, bodyRun.sl.r_26, bodyRun.sl.r_27, bodyRun.sl.r_28, bodyRun.sl.r_29, bodyRun.sl.r_30, bodyRun.sl.r_31, bodyRun.sl.r_32, bodyRun.sl.r_33, bodyRun.sl.r_34, bodyRun.sl.r_35, bodyRun.sl.r_36, bodyRun.sl.r_37, bodyRun.sl.r_38, bodyRun.sl.r_39, bodyRun.sl.cst_258,
    bodyRun.sl.v436, bodyRun.sl.v438, bodyRun.sl.v440, bodyRun.sl.v459, bodyRun.sl.v461, bodyRun.sl.v463, bodyRun.sl.v482, bodyRun.sl.v484, bodyRun.sl.v486, bodyRun.sl.v505, bodyRun.sl.v507, bodyRun.sl.v509, bodyRun.sl.v528, bodyRun.sl.v530, bodyRun.sl.v532, bodyRun.sl.v551, bodyRun.sl.v553, bodyRun.sl.v555, bodyRun.sl.v574, bodyRun.sl.v576, bodyRun.sl.v578, bodyRun.sl.v597, bodyRun.sl.v599, bodyRun.sl.v601,
    View.readCov, readAt_window, trips_eq, read_z, read_d, Memref.IsWhole.read_unread, window_full2,
    errStep_0, errStep_12, errStep_3, errStep_45, errStep_67]
  rw [read_big]
  simp only [read_z, read_d, outV, accV]
  rfl

end Cert.KernelIdeal.Body
end
-- ==== Proof.Launch.lean ====
module

public import Idealize.ShloMosaic.Lib.Claim
public import proofs.«01_k».proof.Proof.BodyValue

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the pipeline's buffers hold on core `c`: each array at its contents when the region is entered, each input's
    staging buffer at its block after the body, and the output's staging buffer at `outV` of the seven blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outV (iblk m c 0 t) (iblk m c 1 t) (iblk m c 2 t) (iblk m c 3 t) (iblk m c 4 t) (iblk m c 5 t) (iblk m c 6 t)
  Φ _ := Pipeline.ΦA spec0 c
  q _ := fullShare
  owed _ := 0

/-- The arrays are the region's entry contents. -/
theorem arrays_eq (c : Dev nD) (w : Fin cfg0.W) : (dats m 0 c).A w = V m c (Pipeline.arrRef spec0 w) := by
  dsimp only [dats]

/-- Input 0 is left at its block, and is at its block before the body. -/
theorem after_0 (c : Dev nD) (t : Fin cfg0.N) : (dats m 0 c).after 0 t = iblk m c 0 t := by dsimp only [dats]
/-- Input 0 is at its block before the body. -/
theorem before_0 (c : Dev nD) (t : Fin cfg0.N) (d) : (dats m 0 c).before 0 t d = iblk m c 0 t :=
  before0_0_of m (dats m 0 c) (arrays_eq m c 0) (after_0 m c) t d
/-- Input 1 is left at its block, and is at its block before the body. -/
theorem after_1 (c : Dev nD) (t : Fin cfg0.N) : (dats m 0 c).after 1 t = iblk m c 1 t := by dsimp only [dats]
/-- Input 1 is at its block before the body. -/
theorem before_1 (c : Dev nD) (t : Fin cfg0.N) (d) : (dats m 0 c).before 1 t d = iblk m c 1 t :=
  before0_1_of m (dats m 0 c) (arrays_eq m c 1) (after_1 m c) t d
/-- Input 2 is left at its block, and is at its block before the body. -/
theorem after_2 (c : Dev nD) (t : Fin cfg0.N) : (dats m 0 c).after 2 t = iblk m c 2 t := by dsimp only [dats]
/-- Input 2 is at its block before the body. -/
theorem before_2 (c : Dev nD) (t : Fin cfg0.N) (d) : (dats m 0 c).before 2 t d = iblk m c 2 t :=
  before0_2_of m (dats m 0 c) (arrays_eq m c 2) (after_2 m c) t d
/-- Input 3 is left at its block, and is at its block before the body. -/
theorem after_3 (c : Dev nD) (t : Fin cfg0.N) : (dats m 0 c).after 3 t = iblk m c 3 t := by dsimp only [dats]
/-- Input 3 is at its block before the body. -/
theorem before_3 (c : Dev nD) (t : Fin cfg0.N) (d) : (dats m 0 c).before 3 t d = iblk m c 3 t :=
  before0_3_of m (dats m 0 c) (arrays_eq m c 3) (after_3 m c) t d
/-- Input 4 is left at its block, and is at its block before the body. -/
theorem after_4 (c : Dev nD) (t : Fin cfg0.N) : (dats m 0 c).after 4 t = iblk m c 4 t := by dsimp only [dats]
/-- Input 4 is at its block before the body. -/
theorem before_4 (c : Dev nD) (t : Fin cfg0.N) (d) : (dats m 0 c).before 4 t d = iblk m c 4 t :=
  before0_4_of m (dats m 0 c) (arrays_eq m c 4) (after_4 m c) t d
/-- Input 5 is left at its block, and is at its block before the body. -/
theorem after_5 (c : Dev nD) (t : Fin cfg0.N) : (dats m 0 c).after 5 t = iblk m c 5 t := by dsimp only [dats]
/-- Input 5 is at its block before the body. -/
theorem before_5 (c : Dev nD) (t : Fin cfg0.N) (d) : (dats m 0 c).before 5 t d = iblk m c 5 t :=
  before0_5_of m (dats m 0 c) (arrays_eq m c 5) (after_5 m c) t d
/-- Input 6 is left at its block, and is at its block before the body. -/
theorem after_6 (c : Dev nD) (t : Fin cfg0.N) : (dats m 0 c).after 6 t = iblk m c 6 t := by dsimp only [dats]
/-- Input 6 is at its block before the body. -/
theorem before_6 (c : Dev nD) (t : Fin cfg0.N) (d) : (dats m 0 c).before 6 t d = iblk m c 6 t :=
  before0_6_of m (dats m 0 c) (arrays_eq m c 6) (after_6 m c) t d
/-- The output is left at `outV` of the seven blocks. -/
theorem after_7 (c : Dev nD) (t : Fin cfg0.N) : (dats m 0 c).after 7 t
    = outV (iblk m c 0 t) (iblk m c 1 t) (iblk m c 2 t) (iblk m c 3 t) (iblk m c 4 t) (iblk m c 5 t) (iblk m c 6 t) := by
  dsimp only [dats]

/-- The invariant of the launch, its six scratch buffers each whole at some contents. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- Window 0's staging buffer at point `t`. -/
abbrev stg0 (t : Fin cfg0.N) : Memref sig .tc .vmem S128x1024 .f32 := win0_0.stage (cfg0.slots t 0)
/-- Window 1's staging buffer at point `t`. -/
abbrev stg1 (t : Fin cfg0.N) : Memref sig .tc .vmem S128x1 .f32 := win0_1.stage (cfg0.slots t 1)
/-- Window 2's staging buffer at point `t`. -/
abbrev stg2 (t : Fin cfg0.N) : Memref sig .tc .vmem S128x1024 .f32 := win0_2.stage (cfg0.slots t 2)
/-- Window 3's staging buffer at point `t`. -/
abbrev stg3 (t : Fin cfg0.N) : Memref sig .tc .vmem S1025x2048 .f32 := win0_3.stage (cfg0.slots t 3)
/-- Window 4's staging buffer at point `t`. -/
abbrev stg4 (t : Fin cfg0.N) : Memref sig .tc .vmem S1x2048 .f32 := win0_4.stage (cfg0.slots t 4)
/-- Window 5's staging buffer at point `t`. -/
abbrev stg5 (t : Fin cfg0.N) : Memref sig .tc .vmem S2048x2048 .f32 := win0_5.stage (cfg0.slots t 5)
/-- Window 6's staging buffer at point `t`. -/
abbrev stg6 (t : Fin cfg0.N) : Memref sig .tc .vmem S1x2048 .f32 := win0_6.stage (cfg0.slots t 6)
/-- Window 7's staging buffer at point `t`. -/
abbrev stg7 (t : Fin cfg0.N) : Memref sig .tc .vmem S1x1x128 .f32 := win0_7.stage (cfg0.slots t 7)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t))

set_option maxHeartbeats 1200000 in
/-- The body at any point takes the first to the second. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  rw [show (dats m 0 c).Φ t.castSucc = Pipeline.ΦA spec0 c from rfl, scratch_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((bodyRun c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, ⟨%f7, H7⟩, HS0, HS1, HS2, HS3, HS4, HS5⟩
  rw [bodyRun_val]
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t` is that body. -/
theorem defs_row (t : Fin cfg0.N) :
    defs₀ (F := F) .tc cfg0.body (cfg0.bodyArgs t (cfg0.slots t)) = bodyAt0 t := by
  unfold defs₀; rw [Defs.onTc_tc]

/-- The launch's obligation on the body, at every point. -/
theorem obligation (c : Dev nD) : BodyObligation (dats (F := F) m 0 c) (defs₀ (F := F)) Variants.none () Set.univ := fun t => by
  rw [bigSep_W0, bigSep_W0, defs_row]
  exact triple_restated (body_sound m c t) rfl .rfl fun _ => .rfl

set_option backward.isDefEq.respectTransparency.types false in
set_option maxHeartbeats 800000 in
/-- The run of the whole program: every array at what the proof data compute, every other buffer at what the host lines
    leave there, every semaphore counter at zero. -/
theorem run_quiescent : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := arrays_eq m) (hΦ := fun _ _ => rfl)

/-- The frame: the run ends, the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (arrays_eq m) ((θ_run defs _ _).mono (fun _ h => h.1) (run_quiescent m ρ)))
    ((θ_run defs _ _).mono (fun _ h => h.2) (run_quiescent m ρ))

end Cert.KernelIdeal.Body
end
-- ==== Proof.Elem.lean ====
module

public import Idealize.ShloMosaic.Lib.ValueIdx

@[expose] public section

noncomputable section

namespace Cert.Elem

open Idealize.ShloMosaic
open scoped BigOperators

/-! What both programs compute for one row and one column, as functions of extended reals, and why they agree on the
    finite. A name that begins with `k` is the kernel's, with `r` the reference's. -/

/-- The value of a literal. -/
def lit (b : BitVec 32) : EReal := Ideal.ofBits .f32 b

/-- The word of 0. -/
theorem lit_zero : lit 0x00000000#32 = ((0 : ℝ) : EReal) := by simp [lit, Ideal.ofBits, Ideal.ieee]
/-- The word of 1. -/
theorem lit_one : lit 0x3F800000#32 = ((1 : ℝ) : EReal) := by
  simp [lit, Ideal.ofBits, Ideal.ieee, -EReal.coe_mul]; norm_num
/-- The word of −1. -/
theorem lit_neg_one : lit 0xBF800000#32 = ((-1 : ℝ) : EReal) := by
  simp [lit, Ideal.ofBits, Ideal.ieee, -EReal.coe_mul]; norm_num
/-- The word of 2. -/
theorem lit_two : lit 0x40000000#32 = ((2 : ℝ) : EReal) := by
  simp [lit, Ideal.ofBits, Ideal.ieee, -EReal.coe_mul]; norm_num
/-- The word of −2. -/
theorem lit_neg_two : lit 0xC0000000#32 = ((-2 : ℝ) : EReal) := by
  simp [lit, Ideal.ofBits, Ideal.ieee, -EReal.coe_mul]; norm_num
/-- The word of 1/2. -/
theorem lit_half : lit 0x3F000000#32 = ((1 / 2 : ℝ) : EReal) := by
  simp [lit, Ideal.ofBits, Ideal.ieee, -EReal.coe_mul]; norm_num
/-- The word of 128. -/
theorem lit_128 : lit 0x43000000#32 = ((128 : ℝ) : EReal) := by
  simp [lit, Ideal.ofBits, Ideal.ieee, -EReal.coe_mul]; norm_num
/-- The word of 8. -/
theorem lit_8 : lit 0x41000000#32 = ((8 : ℝ) : EReal) := by
  simp [lit, Ideal.ofBits, Ideal.ieee, -EReal.coe_mul]; norm_num
/-- The word of 127. -/
theorem lit_127 : lit 0x42FE0000#32 = ((127 : ℝ) : EReal) := by
  simp [lit, Ideal.ofBits, Ideal.ieee, -EReal.coe_mul]; norm_num
/-- The word of 1/64. -/
theorem lit_64th : lit 0x3C800000#32 = ((1 / 64 : ℝ) : EReal) := by
  simp [lit, Ideal.ofBits, Ideal.ieee, -EReal.coe_mul]; norm_num
/-- The word of 1/128. -/
theorem lit_128th : lit 0x3C000000#32 = ((1 / 128 : ℝ) : EReal) := by
  simp [lit, Ideal.ofBits, Ideal.ieee, -EReal.coe_mul]; norm_num
/-- The word of 127/256. -/
theorem lit_edge : lit 0x3EFE0000#32 = ((127 / 256 : ℝ) : EReal) := by
  simp [lit, Ideal.ofBits, Ideal.ieee, -EReal.coe_mul]; norm_num
/-- The word of −127/256. -/
theorem lit_neg_edge : lit 0xBEFE0000#32 = ((-127 / 256 : ℝ) : EReal) := by
  simp [lit, Ideal.ofBits, Ideal.ieee, -EReal.coe_mul]; norm_num
/-- The word of 0.02 is a rational near it. -/
theorem lit_sigma : lit 0x3CA3D70A#32 = ((5368709 / 268435456 : ℝ) : EReal) := by
  simp [lit, Ideal.ofBits, Ideal.ieee, -EReal.coe_mul]; norm_num
/-- The word of the number of elements. -/
theorem lit_count : lit 0x48800000#32 = ((262144 : ℝ) : EReal) := by
  simp [lit, Ideal.ofBits, Ideal.ieee, -EReal.coe_mul]; norm_num
/-- The threshold on the time is a positive real. -/
theorem lit_tmin : ∃ r : ℝ, 0 < r ∧ lit 0x2EDBE6FF#32 = (r : EReal) := by
  refine ⟨(14411519 : ℝ) * 2 ^ (-57 : ℤ), by positivity, ?_⟩
  simp [lit, Ideal.ofBits, Ideal.ieee, -EReal.coe_mul]
/-- The slope of the rectifier is real. -/
theorem lit_slope : ∃ r : ℝ, lit 0x3C23D70A#32 = (r : EReal) := by
  refine ⟨(10737418 : ℝ) * 2 ^ (-30 : ℤ), ?_⟩
  simp [lit, Ideal.ofBits, Ideal.ieee, -EReal.coe_mul]

/-- A sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- An extended real that is a real. -/
def IsR (a : EReal) : Prop := ∃ r : ℝ, a = (r : EReal)

/-- A real number is real. -/
theorem isR_coe (r : ℝ) : IsR (r : EReal) := ⟨r, rfl⟩
/-- Sums of reals are real. -/
theorem IsR.add {a b : EReal} : IsR a → IsR b → IsR (a + b) := by
  rintro ⟨x, rfl⟩ ⟨y, rfl⟩; exact ⟨x + y, (EReal.coe_add x y).symm⟩
/-- Differences of reals are real. -/
theorem IsR.sub {a b : EReal} : IsR a → IsR b → IsR (a - b) := by
  rintro ⟨x, rfl⟩ ⟨y, rfl⟩; exact ⟨x - y, (EReal.coe_sub x y).symm⟩
/-- Products of reals are real. -/
theorem IsR.mul {a b : EReal} : IsR a → IsR b → IsR (a * b) := by
  rintro ⟨x, rfl⟩ ⟨y, rfl⟩; exact ⟨x * y, (EReal.coe_mul x y).symm⟩
/-- Finite sums of reals are real. -/
theorem IsR.sum {ι : Type} (s : Finset ι) {f : ι → EReal} (h : ∀ i, IsR (f i)) : IsR (∑ i ∈ s, f i) := by
  choose g hg using h
  exact ⟨∑ i ∈ s, g i, by rw [coe_sum]; exact Finset.sum_congr rfl fun i _ => hg i⟩
/-- A choice between reals is real. -/
theorem IsR.select {c : BitVec 1} {a b : EReal} (ha : IsR a) (hb : IsR b) : IsR (Scalar.select c a b) := by
  unfold Scalar.select; split <;> assumption
/-- The error function is real everywhere. -/
theorem isR_erf (a : EReal) : IsR (Ideal.erf a) := by
  induction a using EReal.rec with
  | bot => exact ⟨-1, by show (-1 : EReal) = _; simp⟩
  | top => exact ⟨1, by show (1 : EReal) = _; simp⟩
  | coe r => exact ⟨_, rfl⟩
/-- One is real. -/
theorem isR_lit_one : IsR (lit 0x3F800000#32) := ⟨_, lit_one⟩
/-- The slope is real. -/
theorem isR_lit_slope : IsR (lit 0x3C23D70A#32) := lit_slope

/-- The natural logarithm of the reference's constant. -/
def L : ℝ := Real.log (5368709 / 268435456)

/-- The logarithm of the deviation is negative. -/
theorem L_neg : L < 0 := Real.log_neg (by norm_num) (by norm_num)

/-- The kernel's `γ`. -/
def kGam (t : EReal) : EReal := lit 0x3F800000#32 - Ideal.exp (((2 * L : ℝ) : EReal) * t)
/-- The reference's `γ`. -/
def rGam (t : EReal) : EReal := lit 0x3F800000#32 - Ideal.pow (lit 0x3CA3D70A#32) (lit 0x40000000#32 * t)
/-- The kernel's weight of a row. -/
def kWt (t : EReal) : EReal := Ideal.exp (((-2 * L : ℝ) : EReal) * t)
/-- The reference's weight of a row. -/
def rWt (t : EReal) : EReal := Ideal.pow (lit 0x3CA3D70A#32) (lit 0xC0000000#32 * t)
/-- A noised input. -/
def noised (g x n : EReal) : EReal := g * x + g * (lit 0x3F800000#32 - g) * n
/-- The hidden layer's nonlinearity. -/
def leaky (s : EReal) : EReal :=
  Scalar.select (Ideal.cmp .oge s (lit 0x00000000#32)) s (lit 0x3C23D70A#32 * s)
/-- One hidden unit. -/
def hidden (g t : EReal) (x n : Fin 1024 → EReal) (w : Fin 1025 → EReal) (b : EReal) : EReal :=
  leaky (∑ j : Fin 1024, noised g (x j) (n j) * w j.castSucc + t * w (Fin.last 1024) + b)
/-- One output of the second layer. -/
def output (g t : EReal) (x n : Fin 1024 → EReal) (w : Fin 1025 → Fin 2048 → EReal) (b : Fin 2048 → EReal)
    (w' : Fin 2048 → EReal) (b' : EReal) : EReal :=
  ∑ k : Fin 2048, hidden g t x n (fun j => w j k) (b k) * w' k + b'
/-- Whether a row's `t` lies below the threshold. -/
def low (t : EReal) : BitVec 1 := Ideal.cmp .olt t (lit 0x2EDBE6FF#32)

/-- The kernel's `1 / γ`. -/
def kInvG (g : EReal) : EReal := Ideal.div (lit 0x3F800000#32) g
/-- The kernel's `√((1 - γ) / γ)`. -/
def kR (g : EReal) : EReal := Ideal.sqrt ((lit 0x3F800000#32 - g) * kInvG g)
/-- The kernel's mean. -/
def kMux (t g mu o : EReal) : EReal :=
  Scalar.select (low t) (lit 0x00000000#32) (mu * kInvG g - kR g * o)
/-- The kernel's `1 / (σ √2)`. -/
def kInv (t g o' : EReal) : EReal :=
  min (Ideal.div (lit 0x3F800000#32)
    (Scalar.select (low t) (lit 0x3F800000#32) (kR g * Ideal.exp o') * ((Real.sqrt 2 : ℝ) : EReal))) ⊤
/-- The kernel's step of the argument of `erf`. -/
def kD (t g o' : EReal) : EReal := lit 0x3C800000#32 * kInv t g o'
/-- The kernel's first argument of `erf`. -/
def kZ (t g mu o o' : EReal) : EReal := (lit 0xBF800000#32 - kMux t g mu o) * kInv t g o'
/-- The kernel's argument of `erf` at the edge `s + 8 n`. -/
def kZs (z d : EReal) (s : ℕ) : ℕ → EReal
  | 0 => ((s : ℝ) : EReal) * d + z
  | n + 1 => kZs z d s n + lit 0x41000000#32 * d
/-- One of the values the kernel adds. -/
def kE (z d : EReal) (p : Fin 16) (n : ℕ) : EReal := Ideal.erf (kZs z d (p.val % 8) (n + p.val / 8))
/-- The kernel's sum of 128 values of `erf`. -/
def kBig (z d : EReal) : EReal :=
  ∑ p : Fin 16, (kE z d p 0 + kE z d p 2 + (kE z d p 4 + kE z d p 6) + (kE z d p 8 + kE z d p 10)
    + (kE z d p 12 + kE z d p 14))
/-- The kernel's prediction. -/
def kP (z d : EReal) : EReal :=
  lit 0xBEFE0000#32 + lit 0x3C000000#32 * (Ideal.erf z - kBig z d)
    + lit 0x3EFE0000#32 * Ideal.erf (z + lit 0x42FE0000#32 * d)

/-- The reference's `√((1 - γ) / γ)`. -/
def rR (g : EReal) : EReal := Ideal.sqrt (Ideal.div (lit 0x3F800000#32 - g) g)
/-- The reference's mean. -/
def rMux (t g mu o : EReal) : EReal :=
  Scalar.select (low t) (lit 0x00000000#32) (Ideal.div mu g - rR g * o)
/-- The reference's `1 / (σ √2)`. -/
def rInv (t g o' : EReal) : EReal :=
  Ideal.div (lit 0x3F800000#32)
    (Scalar.select (low t) (lit 0x3F800000#32) (rR g * Ideal.exp o') * Ideal.sqrt (lit 0x40000000#32))
/-- The lower edge of a bin. -/
def rKl (k : EReal) : EReal :=
  Ideal.div (lit 0x40000000#32 * (k - lit 0x3F800000#32)) (lit 0x43000000#32) - lit 0x3F800000#32
/-- The upper edge of a bin. -/
def rKr (k : EReal) : EReal := Ideal.div (lit 0x40000000#32 * k) (lit 0x43000000#32) - lit 0x3F800000#32
/-- The centre of a bin. -/
def rKc (k : EReal) : EReal :=
  Ideal.div (lit 0x40000000#32 * k - lit 0x3F800000#32) (lit 0x43000000#32) - lit 0x3F800000#32
/-- The reference's distribution function at an edge. -/
def rCdf (m i b : EReal) : EReal :=
  Scalar.select (Ideal.cmp .ole b (lit 0xBF800000#32)) (lit 0x00000000#32)
    (Scalar.select (Ideal.cmp .oge b (lit 0x3F800000#32)) (lit 0x3F800000#32)
      (lit 0x3F000000#32 * (lit 0x3F800000#32 + Ideal.erf ((b - m) * i))))
/-- The reference's prediction. -/
def rP (m i : EReal) : EReal :=
  lit 0x00000000#32 +
    ∑ k : Fin 128, rKc ((k.val : ℝ) : EReal) *
      (rCdf m i (rKr ((k.val : ℝ) : EReal)) - rCdf m i (rKl ((k.val : ℝ) : EReal)))

/-! ## The pieces agree -/

/-- The exponential of a real. -/
theorem exp_coe (r : ℝ) : Ideal.exp (r : EReal) = ((Real.exp r : ℝ) : EReal) := rfl
/-- The square root of a real that is not negative. -/
theorem sqrt_coe {r : ℝ} (h : 0 ≤ r) : Ideal.sqrt (r : EReal) = ((Real.sqrt r : ℝ) : EReal) := by
  show (if r < 0 then (⊥ : EReal) else _) = _
  rw [if_neg (not_lt.2 h)]
/-- A quotient of reals, the divisor not zero. -/
theorem div_coe' {y : ℝ} (h : y ≠ 0) (x : ℝ) : Ideal.div (x : EReal) (y : EReal) = ((x / y : ℝ) : EReal) := by
  rw [Ideal.div_coe h, ← EReal.coe_mul]; congr 1; ring

/-- A real power of the deviation is an exponential. -/
theorem pow_sigma (a : ℝ) : Ideal.pow (lit 0x3CA3D70A#32) (a : EReal) = ((Real.exp (L * a) : ℝ) : EReal) := by
  rw [lit_sigma]
  show ((Real.rpow _ _ : ℝ) : EReal) = _
  congr 1
  exact Real.rpow_def_of_pos (by norm_num) a

/-- The kernel's accuracy at a real time. -/
theorem kGam_coe (t : ℝ) : kGam t = ((1 - Real.exp (2 * L * t) : ℝ) : EReal) := by
  rw [kGam, lit_one, ← EReal.coe_mul, exp_coe, ← EReal.coe_sub]
/-- Both programs compute the same accuracy at a real time. -/
theorem gam_eq {t : EReal} (h : IsR t) : kGam t = rGam t := by
  obtain ⟨t, rfl⟩ := h
  rw [kGam_coe, rGam, lit_one, lit_two, ← EReal.coe_mul, pow_sigma, ← EReal.coe_sub]
  congr 3; ring
/-- Both programs compute the same weight at a real time. -/
theorem wt_eq {t : EReal} (h : IsR t) : kWt t = rWt t := by
  obtain ⟨t, rfl⟩ := h
  rw [kWt, rWt, lit_neg_two, ← EReal.coe_mul, ← EReal.coe_mul, pow_sigma, exp_coe]
  congr 2; ring
/-- The accuracy at a real time is real. -/
theorem isR_kGam {t : EReal} (h : IsR t) : IsR (kGam t) := by
  obtain ⟨t, rfl⟩ := h; exact ⟨_, kGam_coe t⟩
/-- The weight at a real time is real. -/
theorem isR_kWt {t : EReal} (h : IsR t) : IsR (kWt t) := by
  obtain ⟨t, rfl⟩ := h; rw [kWt, ← EReal.coe_mul, exp_coe]; exact isR_coe _
/-- A noised element of reals is real. -/
theorem isR_noised {g x n : EReal} (hg : IsR g) (hx : IsR x) (hn : IsR n) : IsR (noised g x n) :=
  (hg.mul hx).add ((hg.mul (isR_lit_one.sub hg)).mul hn)
/-- The rectifier keeps reals real. -/
theorem isR_leaky {s : EReal} (hs : IsR s) : IsR (leaky s) := hs.select (isR_lit_slope.mul hs)
/-- A hidden unit of reals is real. -/
theorem isR_hidden {g t : EReal} {x n : Fin 1024 → EReal} {w : Fin 1025 → EReal} {b : EReal} (hg : IsR g) (ht : IsR t)
    (hx : ∀ j, IsR (x j)) (hn : ∀ j, IsR (n j)) (hw : ∀ j, IsR (w j)) (hb : IsR b) : IsR (hidden g t x n w b) :=
  isR_leaky (((IsR.sum _ fun j => (isR_noised hg (hx j) (hn j)).mul (hw _)).add (ht.mul (hw _))).add hb)
/-- An output of reals is real. -/
theorem isR_output {g t : EReal} {x n : Fin 1024 → EReal} {w : Fin 1025 → Fin 2048 → EReal} {b : Fin 2048 → EReal}
    {w' : Fin 2048 → EReal} {b' : EReal} (hg : IsR g) (ht : IsR t) (hx : ∀ j, IsR (x j)) (hn : ∀ j, IsR (n j))
    (hw : ∀ j k, IsR (w j k)) (hb : ∀ k, IsR (b k)) (hw' : ∀ k, IsR (w' k)) (hb' : IsR b') :
    IsR (output g t x n w b w' b') :=
  (IsR.sum _ fun k => (isR_hidden hg ht hx hn (fun j => hw j k) (hb k)).mul (hw' k)).add hb'

/-- A row either lies below the threshold or has `γ` strictly between `0` and `1`. -/
theorem low_or (t : ℝ) : low t = 1#1 ∨ (low t = 0#1 ∧ 0 < 1 - Real.exp (2 * L * t) ∧ 1 - Real.exp (2 * L * t) < 1) := by
  obtain ⟨m, hm, e⟩ := lit_tmin
  rw [low, e]
  rcases lt_or_ge t m with h | h
  · exact .inl (by simp [Ideal.cmp, h])
  · refine .inr ⟨by simp [Ideal.cmp, not_lt.2 h], ?_, by linarith [Real.exp_pos (2 * L * t)]⟩
    have : Real.exp (2 * L * t) < 1 := by
      rw [← Real.exp_zero]; exact Real.exp_lt_exp.2 (by nlinarith [L_neg, hm])
    linarith

/-- A choice under a true condition. -/
theorem select_one (a b : EReal) : Scalar.select 1#1 a b = a := rfl
/-- A choice under a false condition. -/
theorem select_zero (a b : EReal) : Scalar.select 0#1 a b = b := rfl

/-- The two means and the two reciprocals agree, and are real. -/
theorem mux_inv {t mu o o' : EReal} (ht : IsR t) (hmu : IsR mu) (ho : IsR o) (ho' : IsR o') :
    ∃ M I : ℝ, kMux t (kGam t) mu o = M ∧ rMux t (kGam t) mu o = M ∧ kInv t (kGam t) o' = I ∧ rInv t (kGam t) o' = I := by
  obtain ⟨t, rfl⟩ := ht
  obtain ⟨mu, rfl⟩ := hmu
  obtain ⟨o, rfl⟩ := ho
  obtain ⟨o', rfl⟩ := ho'
  have h2 : Ideal.sqrt (lit 0x40000000#32) = ((Real.sqrt 2 : ℝ) : EReal) := by rw [lit_two, sqrt_coe (by norm_num)]
  have s2 : (0 : ℝ) < Real.sqrt 2 := Real.sqrt_pos.2 (by norm_num)
  rw [kMux, rMux, kInv, rInv, h2]
  rcases low_or t with h | ⟨h, g0, g1⟩
  · rw [h]
    simp only [select_one]
    refine ⟨0, 1 / (1 * Real.sqrt 2), lit_zero, lit_zero, ?_, ?_⟩
    · rw [lit_one, ← EReal.coe_mul, div_coe' (by positivity), min_eq_left le_top]
    · rw [lit_one, ← EReal.coe_mul, div_coe' (by positivity)]
  · rw [h]
    simp only [select_zero]
    rw [kGam_coe]
    generalize 1 - Real.exp (2 * L * t) = g at g0 g1
    have hr : kR (g : EReal) = ((Real.sqrt ((1 - g) / g) : ℝ) : EReal) := by
      rw [kR, kInvG, lit_one, div_coe' g0.ne', ← EReal.coe_sub, ← EReal.coe_mul,
        sqrt_coe (mul_nonneg (by linarith) (by positivity))]
      congr 2; ring
    have hr' : rR (g : EReal) = ((Real.sqrt ((1 - g) / g) : ℝ) : EReal) := by
      rw [rR, lit_one, ← EReal.coe_sub, div_coe' g0.ne', sqrt_coe (div_nonneg (by linarith) g0.le)]
    have rp : 0 < Real.sqrt ((1 - g) / g) := Real.sqrt_pos.2 (div_pos (by linarith) g0)
    rw [hr, hr']
    generalize Real.sqrt ((1 - g) / g) = r at rp
    have hs : (r * Real.exp o') * Real.sqrt 2 ≠ 0 := by positivity
    refine ⟨mu / g - r * o, 1 / ((r * Real.exp o') * Real.sqrt 2), ?_, ?_, ?_, ?_⟩
    · rw [kInvG, lit_one, div_coe' g0.ne', ← EReal.coe_mul, ← EReal.coe_mul, ← EReal.coe_sub]
      congr 1; ring
    · rw [div_coe' g0.ne', ← EReal.coe_mul, ← EReal.coe_sub]
    · rw [exp_coe, lit_one, ← EReal.coe_mul, ← EReal.coe_mul, div_coe' hs, min_eq_left le_top]
    · rw [exp_coe, lit_one, ← EReal.coe_mul, ← EReal.coe_mul, div_coe' hs]

/-- `erf` on the reals. -/
def e (r : ℝ) : ℝ := 2 / Real.sqrt Real.pi * ∫ t in (0 : ℝ)..r, Real.exp (-(t ^ 2))
/-- The error function of a real. -/
theorem erf_coe (r : ℝ) : Ideal.erf (r : EReal) = ((e r : ℝ) : EReal) := rfl

/-- The kernel's argument of the error function, stepped eight at a time. -/
theorem kZs_coe (z d : ℝ) (s n : ℕ) : kZs z d s n = ((z + ((s + 8 * n : ℕ) : ℝ) * d : ℝ) : EReal) := by
  induction n with
  | zero => rw [kZs, ← EReal.coe_mul, ← EReal.coe_add]; congr 1; push_cast; ring
  | succ n ih => rw [kZs, ih, lit_8, ← EReal.coe_mul, ← EReal.coe_add]; congr 1; push_cast; ring

/-- The kernel's sum is over the 128 edges. -/
theorem kBig_coe (z d : ℝ) : kBig z d = ((∑ k ∈ Finset.range 128, e (z + (k : ℝ) * d) : ℝ) : EReal) := by
  have h : ∀ p n, kE (z : EReal) d p n = ((e (z + ((p.val % 8 + 8 * (n + p.val / 8) : ℕ) : ℝ) * d) : ℝ) : EReal) :=
    fun p n => by rw [kE, kZs_coe, erf_coe]
  simp only [kBig, h, ← EReal.coe_add, ← coe_sum]
  congr 1
  generalize hf : (fun k : ℕ => e (z + (k : ℝ) * d)) = f
  have hf' : ∀ k : ℕ, e (z + (k : ℝ) * d) = f k := fun k => congrFun hf k
  simp only [hf']
  simp only [Fin.sum_univ_succ, Finset.sum_range_succ, Finset.sum_range_zero, Fin.sum_univ_zero]
  norm_num [Fin.succ]
  ring

/-- The reference's distribution function at the edge `k`. -/
theorem rCdf_coe (M I : ℝ) (k : ℤ) (hk : k < 128) :
    rCdf M I ((2 * (k : ℝ) / 128 - 1 : ℝ) : EReal) =
      ((if k ≤ 0 then 0 else 1 / 2 * (1 + e ((-1 - M) * I + (k : ℝ) * (1 / 64 * I))) : ℝ) : EReal) := by
  have hk' : (k : ℝ) < 128 := by exact_mod_cast hk
  have h1 : ¬ (1 : ℝ) ≤ 2 * (k : ℝ) / 128 - 1 := by intro h; linarith
  rw [rCdf, lit_neg_one, lit_one, lit_zero, lit_half]
  have c2 : Ideal.cmp .oge ((2 * (k : ℝ) / 128 - 1 : ℝ) : EReal) ((1 : ℝ) : EReal) = 0#1 := by
    simp only [Ideal.cmp, EReal.coe_le_coe_iff, h1, decide_false]; rfl
  rw [c2, select_zero]
  by_cases h : k ≤ 0
  · have h' : (k : ℝ) ≤ 0 := by exact_mod_cast h
    have c1 : Ideal.cmp .ole ((2 * (k : ℝ) / 128 - 1 : ℝ) : EReal) ((-1 : ℝ) : EReal) = 1#1 := by
      have : 2 * (k : ℝ) / 128 - 1 ≤ -1 := by linarith
      simp only [Ideal.cmp, EReal.coe_le_coe_iff, this, decide_true]; rfl
    rw [c1, select_one, if_pos h]
  · have h' : (0 : ℝ) < k := by exact_mod_cast not_le.1 h
    have c1 : Ideal.cmp .ole ((2 * (k : ℝ) / 128 - 1 : ℝ) : EReal) ((-1 : ℝ) : EReal) = 0#1 := by
      have : ¬ 2 * (k : ℝ) / 128 - 1 ≤ -1 := by intro h; linarith
      simp only [Ideal.cmp, EReal.coe_le_coe_iff, this, decide_false]; rfl
    rw [c1, select_zero, if_neg h, ← EReal.coe_sub, ← EReal.coe_mul, erf_coe, ← EReal.coe_add, ← EReal.coe_mul]
    congr 4; ring

/-- Summation by parts over the bins. -/
theorem abel (G : ℤ → ℝ) (n : ℕ) :
    ∑ k ∈ Finset.range (n + 2), ((2 * (k : ℝ) - 1) / 128 - 1) *
        ((if (k : ℤ) ≤ 0 then 0 else G k) - (if (k : ℤ) - 1 ≤ 0 then 0 else G (k - 1))) =
      ((2 * ((n : ℝ) + 1) - 1) / 128 - 1) * G (n + 1) - 1 / 64 * (∑ k ∈ Finset.range (n + 1), G k - G 0) := by
  induction n with
  | zero => simp [Finset.sum_range_succ]
  | succ n ih =>
    rw [Finset.sum_range_succ, ih, Finset.sum_range_succ _ (n + 1),
      if_neg (by push_cast; omega), if_neg (by push_cast; omega)]
    push_cast
    rw [show (n : ℤ) + 2 - 1 = n + 1 by ring, show (n : ℤ) + 1 + 1 = n + 2 by ring]
    ring

/-- The two predictions agree. -/
theorem kP_eq_rP (M I : ℝ) : IsR (rP M I) ∧
    kP ((lit 0xBF800000#32 - M) * I) (lit 0x3C800000#32 * I) = rP M I := by
  have hr : rP M I = ((∑ k ∈ Finset.range (126 + 2), ((2 * (k : ℝ) - 1) / 128 - 1) *
        ((if (k : ℤ) ≤ 0 then 0 else 1 / 2 * (1 + e ((-1 - M) * I + ((k : ℤ) : ℝ) * (1 / 64 * I)))) -
          (if (k : ℤ) - 1 ≤ 0 then 0 else
            1 / 2 * (1 + e ((-1 - M) * I + (((k : ℤ) - 1 : ℤ) : ℝ) * (1 / 64 * I))))) : ℝ) : EReal) := by
    rw [rP, lit_zero, EReal.coe_zero, zero_add, Finset.sum_range, coe_sum]
    refine Finset.sum_congr rfl fun k _ => ?_
    have hk := k.isLt
    have e1 : rKr (((k.val : ℕ) : ℝ) : EReal) = ((2 * (((k.val : ℕ) : ℤ) : ℝ) / 128 - 1 : ℝ) : EReal) := by
      rw [rKr, lit_two, lit_128, lit_one, ← EReal.coe_mul, div_coe' (by norm_num), ← EReal.coe_sub]; simp
    have e2 : rKl (((k.val : ℕ) : ℝ) : EReal) = ((2 * ((((k.val : ℕ) : ℤ) - 1 : ℤ) : ℝ) / 128 - 1 : ℝ) : EReal) := by
      rw [rKl, lit_two, lit_128, lit_one, ← EReal.coe_sub, ← EReal.coe_mul, div_coe' (by norm_num), ← EReal.coe_sub]; simp
    rw [e1, e2, rCdf_coe M I _ (by omega), rCdf_coe M I _ (by omega), rKc, lit_two, lit_128, lit_one,
      ← EReal.coe_mul, ← EReal.coe_sub, div_coe' (by norm_num), ← EReal.coe_sub, ← EReal.coe_sub, ← EReal.coe_mul]
  refine ⟨⟨_, hr⟩, ?_⟩
  rw [hr, abel (fun k : ℤ => 1 / 2 * (1 + e ((-1 - M) * I + (k : ℝ) * (1 / 64 * I)))) 126,
    lit_neg_one, lit_64th, ← EReal.coe_sub, ← EReal.coe_mul, ← EReal.coe_mul, kP, kBig_coe, lit_neg_edge, lit_128th,
    lit_edge, lit_127, ← EReal.coe_mul, ← EReal.coe_add, erf_coe, erf_coe, ← EReal.coe_sub, ← EReal.coe_mul,
    ← EReal.coe_mul, ← EReal.coe_add, ← EReal.coe_add]
  congr 1
  rw [Finset.sum_range_succ _ 127]
  simp only [← Finset.mul_sum, Finset.sum_add_distrib, Int.cast_natCast]
  norm_num
  ring

/-- The kernel's prediction is the reference's, and real. -/
theorem prediction {t mu o o' : EReal} (ht : IsR t) (hmu : IsR mu) (ho : IsR o) (ho' : IsR o') :
    IsR (rP (rMux t (kGam t) mu o) (rInv t (kGam t) o')) ∧
    kP (kZ t (kGam t) mu o o') (kD t (kGam t) o') = rP (rMux t (kGam t) mu o) (rInv t (kGam t) o') := by
  obtain ⟨M, I, h1, h2, h3, h4⟩ := mux_inv ht hmu ho ho'
  rw [kZ, kD, h1, h2, h3, h4]
  exact kP_eq_rP M I

end Cert.Elem

end
-- ==== Proof.KernelRead.lean ====
module

public import proofs.«01_k».proof.Proof.BodyValue
public import proofs.«01_k».proof.Proof.Elem
public import Idealize.ShloMosaic.Lib.ValueLayout
public import Idealize.ShloMosaic.PureOps.Ideal.Laws

@[expose] public section

set_option maxRecDepth 16384

noncomputable section

namespace Cert.KernelIdeal.Body

open Cert.KernelIdeal.Gen
open Idealize.ShloMosaic Idealize.ShloMosaic.ValueIdx
open Cert.Elem
open scoped BigOperators

/-! What one run of the kernel's body leaves, read element by element over the extended reals. -/

/-- A column repeated along the rows' other axis. -/
theorem col_apply {α : Type} {m n : ℕ} (v : (⟨2, ![m, 1]⟩ : Shape).Idx → α)
    (h : (⟨2, ![m, 1]⟩ : Shape).Broadcasts ⟨2, ![m, n]⟩) (i : Fin m) (j : Fin n) :
    broadcastTo ⟨2, ![m, n]⟩ v h (ix2 i j) = v (ix2 i 0) := by
  refine broadcastTo_apply v h _ _ fun a => ?_
  match a with
  | 0 =>
    have := i.isLt
    show i.val = if m = 1 then 0 else i.val
    split <;> omega
  | 1 => rfl

/-- Row `8 k + s` of an array of 128 rows. -/
def rowIx (k : Fin 16) (s : Fin 8) : Fin 128 := ⟨8 * k.val + s.val, by have := k.isLt; have := s.isLt; omega⟩
/-- Column `128 c + l` of an array of 1024 columns. -/
def colIx (c : Fin 8) (l : Fin 128) : Fin 1024 := ⟨128 * c.val + l.val, by have := c.isLt; have := l.isLt; omega⟩
/-- The group of eight a row is in. -/
def rowHi (i : Fin 128) : Fin 16 := ⟨i.val / 8, by have := i.isLt; omega⟩
/-- A row within its group of eight. -/
def rowLo (i : Fin 128) : Fin 8 := ⟨i.val % 8, Nat.mod_lt _ (by omega)⟩
/-- A row is its octet and its place in it. -/
theorem rowIx_hi_lo (i : Fin 128) : rowIx (rowHi i) (rowLo i) = i :=
  Fin.ext (by show 8 * (i.val / 8) + i.val % 8 = i.val; omega)

/-- Rows cut into octets, read at an element. -/
theorem split_apply {α : Type} (x : S128x128.Idx → α) (k : Fin 16) (s : Fin 8) (l : Fin 128) :
    shapeCast S16x8x128 x shapeCasts_S128x128_S16x8x128 (ix3 k s l) = x (ix2 (rowIx k s) l) := by
  refine shapeCast_apply _ _ _ _ ?_
  rw [Shape.rowMajor_val_two, Shape.rowMajor_val_three]
  show (8 * k.val + s.val) * 128 + l.val = (k.val * 8 + s.val) * 128 + l.val
  ring

/-- Octets joined to rows, read at an element. -/
theorem merge_apply {α : Type} (x : S16x8x128.Idx → α) (i : Fin 128) (l : Fin 128) :
    shapeCast S128x128 x shapeCasts_S16x8x128_S128x128 (ix2 i l) = x (ix3 (rowHi i) (rowLo i) l) := by
  refine shapeCast_apply _ _ _ _ ?_
  rw [Shape.rowMajor_val_two, Shape.rowMajor_val_three]
  show ((i.val / 8) * 8 + i.val % 8) * 128 + l.val = i.val * 128 + l.val
  have : (i.val / 8) * 8 + i.val % 8 = i.val := by omega
  rw [this]

/-- A block of columns, read at an element. -/
theorem cols_apply {α : Type} {m n : ℕ} (x : (⟨2, ![m, n]⟩ : Shape).Idx → α) (o : ℕ) (h : o + 1024 ≤ n) (c : Fin 8)
    (i : Fin m) (l : Fin 128) :
    cols x o h c (ix2 i l) = x (ix2 i ⟨o + (128 * c.val + l.val), by have := c.isLt; have := l.isLt; omega⟩) := by
  refine congrArg x (funext fun a => Fin.ext ?_)
  match a with
  | 0 => show 0 + 1 * i.val = i.val; omega
  | 1 => show o + 128 * c.val + 1 * l.val = o + (128 * c.val + l.val); omega

/-- The constant that stands for √2. -/
theorem named_sqrt_two : Named.named (F := Ideal) κ "sqrt_two" (φ := .f32) 0x3FB504F3#32 = ((Real.sqrt 2 : ℝ) : EReal) := rfl
/-- The constant that stands for infinity. -/
theorem named_no_clamp : Named.named (F := Ideal) κ "no_clamp" (φ := .f32) 0x7149F2CA#32 = (⊤ : EReal) := rfl
/-- The constant that stands for twice the logarithm of the deviation. -/
theorem named_two_ln : Named.named (F := Ideal) κ "two_ln_sigma" (φ := .f32) 0xC0FA5E96#32 = ((2 * L : ℝ) : EReal) := rfl
/-- The constant that stands for its negation. -/
theorem named_minus_two_ln : Named.named (F := Ideal) κ "minus_two_ln_sigma" (φ := .f32) 0x40FA5E96#32 = ((-2 * L : ℝ) : EReal) := rfl
/-- The constant that scales the sum to the loss. -/
theorem named_mean : Named.named (F := Ideal) κ "minus_ln_sigma_mean" (φ := .f32) 0x377A5E96#32 = ((-L * (1 / 262144) : ℝ) : EReal) := rfl

/-- An exponential, read at an element. -/
theorem exp_apply {s : Shape} (a : FVec Ideal s .f32) (i : s.Idx) : exp a i = Ideal.exp (a i) := rfl
/-- An error function, read at an element. -/
theorem erf_apply {s : Shape} {φ : FTy} (a : FVec Ideal s φ) (i : s.Idx) : erf a i = Ideal.erf (a i) := rfl

section
variable (x0 : Vec Ideal S128x1024 .f32) (x1 : Vec Ideal S128x1 .f32) (x2 : Vec Ideal S128x1024 .f32)
  (x3 : Vec Ideal S1025x2048 .f32) (x4 : Vec Ideal S1x2048 .f32) (x5 : Vec Ideal S2048x2048 .f32) (x6 : Vec Ideal S1x2048 .f32)

/-- The accuracy of row `i`. -/
theorem gam_apply (i : Fin 128) : k0_pay1186 x1 (ix2 i 0) = kGam (x1 (ix2 i 0)) := rfl
/-- The weight of row `i`. -/
theorem wt_apply (i : Fin 128) : k0_pay1238 x1 (ix2 i 0) = kWt (x1 (ix2 i 0)) := rfl
/-- The reciprocal of the accuracy of row `i`. -/
theorem invG_apply (g : FVec Ideal S128x1 .f32) (i : Fin 128) : k0_pay1191 g (ix2 i 0) = kInvG (g (ix2 i 0)) := rfl
/-- The root that scales row `i`. -/
theorem r_apply (g : FVec Ideal S128x1 .f32) (i : Fin 128) : k0_pay1192 g (ix2 i 0) = kR (g (ix2 i 0)) := rfl
/-- Whether the time of row `i` lies below the threshold. -/
theorem low_apply (i : Fin 128) : k0_pay1193 x1 (ix2 i 0) = low (x1 (ix2 i 0)) := rfl

/-- The noised element of row `i` and column `j`. -/
theorem mu_apply (i : Fin 128) (j : Fin 1024) :
    muV x0 x1 x2 (ix2 i j) = noised (kGam (x1 (ix2 i 0))) (x0 (ix2 i j)) (x2 (ix2 i j)) := by
  unfold muV k0_pay1187
  rw [shapeCast_self, addf_apply, mulf_apply, mulf_apply, col_apply, col_apply]
  rfl

/-- The first layer's contraction. -/
theorem dot1_apply (a : FVec Ideal S128x1024 .f32) (b : FVec Ideal S1024x2048 .f32) (i : Fin 128) (k : Fin 2048) :
    matmul dot_S128x1024_S1024x2048_S128x2048_1_0_0_1_n_n none a b (constant S128x2048 .f32 0x00000000#32) (ix2 i k) =
      ∑ j : Fin 1024, a (ix2 i j) * b (ix2 j k) := by
  refine (Ideal.matmul_constant_zero_apply _ none _ _ _).trans ?_
  refine Fintype.sum_equiv (contrEquiv1 dot_S128x1024_S1024x2048_S128x2048_1_0_0_1_n_n 1024 rfl rfl) _ _ fun q => ?_
  congr 1
  · exact congrArg a (funext fun d => match d with | 0 => rfl | 1 => rfl)
  · exact congrArg b (funext fun d => match d with | 0 => rfl | 1 => rfl)

/-- The second layer's contraction. -/
theorem dot2_apply (a : FVec Ideal S128x2048 .bf16) (b : FVec Ideal S2048x2048 .f32) (i : Fin 128) (k : Fin 2048) :
    matmul dot_S128x2048_S2048x2048_S128x2048_1_0_0_1_n_n none a b (constant S128x2048 .f32 0x00000000#32) (ix2 i k) =
      ∑ j : Fin 2048, a (ix2 i j) * b (ix2 j k) := by
  refine (Ideal.matmul_constant_zero_apply _ none _ _ _).trans ?_
  refine Fintype.sum_equiv (contrEquiv1 dot_S128x2048_S2048x2048_S128x2048_1_0_0_1_n_n 2048 rfl rfl) _ _ fun q => ?_
  congr 1
  · exact congrArg a (funext fun d => match d with | 0 => rfl | 1 => rfl)
  · exact congrArg b (funext fun d => match d with | 0 => rfl | 1 => rfl)

/-- A hidden unit of a row. -/
theorem hidden_apply (i : Fin 128) (k : Fin 2048) :
    k0_pay1188 x1 (muV x0 x1 x2) (VecWindow.window x3 ![0, 0] S1024x2048.size inb_S1025x2048_S1024x2048_0_0)
        (VecWindow.window x3 ![1024, 0] S1x2048.size inb_S1025x2048_S1x2048_1024_0) x4 (ix2 i k) =
      hidden (kGam (x1 (ix2 i 0))) (x1 (ix2 i 0)) (fun j => x0 (ix2 i j)) (fun j => x2 (ix2 i j))
        (fun j => x3 (ix2 j k)) (x4 (ix2 0 k)) := by
  have key : ∀ s s' : EReal, s = s' → Scalar.select (Ideal.cmp .oge s (lit 0x00000000#32)) s (lit 0x3C23D70A#32 * s) = leaky s' :=
    fun s s' h => by rw [h]; rfl
  refine key _ _ ?_
  rw [addf_apply, addf_apply, mulf_apply, col_apply, broadcastTo_1b_ab_apply, broadcastTo_1b_ab_apply, shapeCast_self,
    dot1_apply]
  congr 2
  · refine Finset.sum_congr rfl fun j _ => ?_
    rw [mu_apply]
    congr 1
    refine congrArg x3 (funext fun d => Fin.ext ?_)
    match d with
    | 0 => show 0 + 1 * j.val = j.val; omega
    | 1 => show 0 + 1 * k.val = k.val; omega
  · congr 1
    refine congrArg x3 (funext fun d => Fin.ext ?_)
    match d with
    | 0 => rfl
    | 1 => show 0 + 1 * k.val = k.val; omega

/-- One of a row's outputs, with its bias. -/
def outOf (i : Fin 128) (k : Fin 2048) : EReal :=
  output (kGam (x1 (ix2 i 0))) (x1 (ix2 i 0)) (fun j => x0 (ix2 i j)) (fun j => x2 (ix2 i j))
    (fun j k => x3 (ix2 j k)) (fun k => x4 (ix2 0 k)) (fun j => x5 (ix2 j k)) (x6 (ix2 0 k))

/-- The output `k` of row `i`, before its bias. -/
theorem o_apply (i : Fin 128) (k : Fin 2048) :
    oV x0 x1 x2 x3 x4 x5 (ix2 i k) + x6 (ix2 0 k) = outOf x0 x1 x2 x3 x4 x5 x6 i k := by
  refine congrArg (· + x6 (ix2 0 k)) ?_
  unfold oV k0_pay1190
  rw [shapeCast_self, dot2_apply]
  refine Finset.sum_congr rfl fun j _ => ?_
  congr 1
  unfold k0_pay1189
  rw [shapeCast_self, truncf_apply, hidden_apply]

/-- The threshold test, spread over a block of columns. -/
theorem low_chunk (i : Fin 128) (l : Fin 128) : lowMask (k0_pay1193 x1) (ix2 i l) = low (x1 (ix2 i 0)) := by
  rw [lowMask, col_apply, shapeCast_self, low_apply]

/-- Column `128 c + l` of the means' outputs. -/
def meanIx (c : Fin 8) (l : Fin 128) : Fin 2048 := ⟨0 + (128 * c.val + l.val), by have := c.isLt; have := l.isLt; omega⟩
/-- Column `128 c + l` of the deviations' outputs. -/
def devIx (c : Fin 8) (l : Fin 128) : Fin 2048 := ⟨1024 + (128 * c.val + l.val), by have := c.isLt; have := l.isLt; omega⟩

/-- The reciprocal of the scaled deviation, in block `c`. -/
theorem inv_chunk (c : Fin 8) (i l : Fin 128) :
    invChunk (k0_pay1192 (k0_pay1186 x1)) (k0_pay1193 x1) (cols (oV x0 x1 x2 x3 x4 x5) 1024 le_rfl c)
        (cols x6 1024 le_rfl c) (ix2 i l) =
      kInv (x1 (ix2 i 0)) (kGam (x1 (ix2 i 0))) (outOf x0 x1 x2 x3 x4 x5 x6 i (devIx c l)) := by
  rw [← o_apply, invChunk, minimumf_apply, divf_apply, mulf_apply, select_apply, low_chunk, mulf_apply, col_apply, r_apply,
    gam_apply, exp_apply, addf_apply, broadcastTo_1b_ab_apply, shapeCast_self, cols_apply, cols_apply]
  rfl

/-- The step between bin edges, in block `c`. -/
theorem d_apply (c : Fin 8) (k : Fin 16) (s : Fin 8) (l : Fin 128) :
    dV x0 x1 x2 x3 x4 x5 x6 c (ix3 k s l) =
      kD (x1 (ix2 (rowIx k s) 0)) (kGam (x1 (ix2 (rowIx k s) 0))) (outOf x0 x1 x2 x3 x4 x5 x6 (rowIx k s) (devIx c l)) := by
  rw [dV, dsChunk, shapeCast_self, split_apply, mulf_apply, inv_chunk]
  rfl

/-- The first bin edge, in block `c`. -/
theorem z_apply (c : Fin 8) (k : Fin 16) (s : Fin 8) (l : Fin 128) :
    zV x0 x1 x2 x3 x4 x5 x6 c (ix3 k s l) =
      kZ (x1 (ix2 (rowIx k s) 0)) (kGam (x1 (ix2 (rowIx k s) 0)))
        (noised (kGam (x1 (ix2 (rowIx k s) 0))) (x0 (ix2 (rowIx k s) (colIx c l))) (x2 (ix2 (rowIx k s) (colIx c l))))
        (outOf x0 x1 x2 x3 x4 x5 x6 (rowIx k s) (meanIx c l)) (outOf x0 x1 x2 x3 x4 x5 x6 (rowIx k s) (devIx c l)) := by
  rw [zV, z0Chunk, shapeCast_self, split_apply, mulf_apply, inv_chunk]
  generalize rowIx k s = i
  rw [subf_apply, select_apply, low_chunk, subf_apply, mulf_apply, mulf_apply, col_apply, col_apply, r_apply, invG_apply,
    gam_apply, addf_apply, broadcastTo_1b_ab_apply, shapeCast_self, cols_apply, cols_apply, cols_apply,
    ← o_apply x0 x1 x2 x3 x4 x5 x6 i (meanIx c l), ← mu_apply]
  have e : (⟨0 + (128 * c.val + l.val), by have := c.isLt; have := l.isLt; omega⟩ : Fin 1024) = colIx c l :=
    Fin.ext (Nat.zero_add _)
  rw [e]
  rfl
end

end Cert.KernelIdeal.Body

end
-- ==== Proof.KernelSum.lean ====
module

public import proofs.«01_k».proof.Proof.KernelRead

@[expose] public section

set_option maxRecDepth 16384

noncomputable section

namespace Cert.KernelIdeal.Body

open Cert.KernelIdeal.Gen
open Idealize.ShloMosaic Idealize.ShloMosaic.ValueIdx
open Cert.Elem
open scoped BigOperators

/-! The sums the kernel forms: 128 values of `erf` for one element, then the squared errors of a column. -/

/-- The counter of a sublane is its number. -/
theorem step_apply (s : Fin 8) (l : Fin 128) : k0_pay1237 (F := Ideal) (ix2 s l) = (((s.val : ℕ) : ℝ) : EReal) := by
  unfold k0_pay1237
  show (((iota .tc S8x128 32 [0] iota_S8x128_d0_w32 (ix2 s l)).toInt : ℝ) : EReal) = _
  rw [iota_single_apply]
  show ((((BitVec.ofNat 32 s.val).toInt : ℤ) : ℝ) : EReal) = _
  have : (BitVec.ofNat 32 s.val).toInt = (s.val : ℤ) := by revert s; decide
  rw [this, Int.cast_natCast]

/-- The arguments of the error function, `n` vectors on. -/
theorem zs_apply (zb db : FVec Ideal S8x128 .f32) (n : ℕ) (s : Fin 8) (l : Fin 128) :
    zs zb db n (ix2 s l) = kZs (zb (ix2 s l)) (db (ix2 s l)) s.val n := by
  induction n with
  | zero => rw [zs, addf_apply, mulf_apply, step_apply]; rfl
  | succ n ih => rw [zs, addf_apply, mulf_apply, ih]; rfl

/-- Two groups of eight, one above the other. -/
theorem erf16_apply (zb db : FVec Ideal S8x128 .f32) (n : ℕ) (p : Fin 16) (l : Fin 128) (z d : EReal)
    (hz : ∀ s, zb (ix2 s l) = z) (hd : ∀ s, db (ix2 s l) = d) :
    erf16 (zs zb db n) (zs zb db (n + 1)) (ix2 p l) = kE z d p n := by
  refine congrArg Ideal.erf ?_
  by_cases h : p.val < 8
  · refine (concatenate_pair_apply_left (t := S16x128) (s₁ := S8x128) (s₂ := S8x128) 0 _ _ concatenates_S8x128_S8x128_S16x128_d0 (ix2 p l) rfl
      (ix2 (⟨p.val, h⟩ : Fin 8) l) (fun b => by match b with | 0 => rfl | 1 => rfl)).trans ?_
    refine (zs_apply _ _ _ _ _).trans ?_
    rw [hz, hd, show p.val / 8 = 0 by omega, show p.val % 8 = p.val by omega, Nat.add_zero]
  · have hp := p.isLt
    refine (concatenate_pair_apply_right (t := S16x128) (s₁ := S8x128) (s₂ := S8x128) 0 _ _ concatenates_S8x128_S8x128_S16x128_d0 (ix2 p l) rfl rfl
      (ix2 (⟨p.val - 8, by omega⟩ : Fin 8) l) (fun b hb => by
        match b with
        | 0 => exact absurd rfl hb
        | 1 => rfl) (by show p.val - 8 + 8 = p.val; omega)).trans ?_
    refine (zs_apply _ _ _ _ _).trans ?_
    rw [hz, hd, show p.val / 8 = 1 by omega, show p.val % 8 = p.val - 8 by omega]

/-- One row's sum. -/
theorem rowSum_apply (zb db : FVec Ideal S8x128 .f32) (l : Fin 128) (z d : EReal)
    (hz : ∀ s, zb (ix2 s l) = z) (hd : ∀ s, db (ix2 s l) = d) : rowSum zb db (ix2 0 l) = kBig z d := by
  rw [rowSum, shapeCast_a_1a_apply, kBig]
  refine (Ideal.multiReduction_add_single _ _ _ _ _ _).trans (Finset.sum_congr rfl fun p _ => ?_)
  have e : (reduces_S16x128_S128.lift (ix1 l) p : S16x128.Idx) = ix2 p l :=
    funext fun a => match a with | 0 => rfl | 1 => rfl
  rw [e]
  have k := fun n => erf16_apply zb db n p l z d hz hd
  exact congrArg₂ (fun a b : EReal => a + b) (congrArg₂ (fun a b : EReal => a + b) (congrArg₂ (fun a b : EReal => a + b)
    (congrArg₂ (fun a b : EReal => a + b) (k 0) (k 2)) (congrArg₂ (fun a b : EReal => a + b) (k 4) (k 6)))
    (congrArg₂ (fun a b : EReal => a + b) (k 8) (k 10))) (congrArg₂ (fun a b : EReal => a + b) (k 12) (k 14))

/-- Each of the eight rows lies in the octet. -/
theorem row_slices (n : Fin 8) : S8x128.Slices ![n.val, 0] S1x128 := by revert n; decide

/-- A row spread over eight sublanes. -/
theorem rowOf_apply (v : Vec Ideal S1x8x128 .f32) (n s : Fin 8) (l : Fin 128) :
    rowOf v ![n.val, 0] (row_slices n) (ix2 s l) = v (ix3 0 n l) := by
  rw [rowOf, broadcastTo_1b_ab_apply, shapeCast_self,
    extractStridedSlice_apply _ _ _ _ (ix2 n l) (fun a => by
      match a with
      | 0 => rfl
      | 1 => show l.val = 0 + l.val; omega), shapeCast_1ab_ab_apply]

/-- Eight rows' sums. -/
theorem rowPay_apply (z d : Vec Ideal S1x8x128 .f32) (s : Fin 8) (l : Fin 128) :
    rowPay z d (ix3 0 s l) = kBig (z (ix3 0 s l)) (d (ix3 0 s l)) := by
  rw [rowPay, shapeCast_self, shapeCast_ab_1ab_apply]
  refine (concatenate_ofFn_unit_apply (t := S8x128) (s₁ := S1x128) 0
    (fun n : Fin 8 => rowSum (rowOf z ![n.val, 0] (row_slices n)) (rowOf d ![n.val, 0] (row_slices n)))
    concatenates_S1x128_S1x128_S1x128_S1x128_S1x128_S1x128_S1x128_S1x128_S8x128_d0 rfl rfl (ix2 s l) s rfl (ix2 0 l)
    (fun b hb => by
      match b with
      | 0 => exact absurd rfl hb
      | 1 => rfl)).trans ?_
  exact rowSum_apply _ _ l _ _ (fun s' => rowOf_apply z s s' l) (fun s' => rowOf_apply d s s' l)

/-- The block of a column built from a block and a lane. -/
theorem chunkOf_colIx (c : Fin 8) (l : Fin 128) : chunkOf (colIx c l) = c :=
  Fin.ext (by have := l.isLt; show (128 * c.val + l.val) / 128 = _; omega)
/-- The lane of a column built from a block and a lane. -/
theorem laneOf_colIx (c : Fin 8) (l : Fin 128) : laneOf (colIx c l) = l :=
  Fin.ext (by have := l.isLt; show (128 * c.val + l.val) % 128 = _; omega)

/-- Eight blocks side by side, read at an element. -/
theorem spread_apply {α : Type} (G : Fin 8 → S16x8x128.Idx → α) (k : Fin 16) (s : Fin 8) (c : Fin 8) (l : Fin 128) :
    spread G (ix3 k s (colIx c l)) = G c (ix3 k s l) := by
  show G (chunkOf (colIx c l)) (ix3 k s (laneOf (colIx c l))) = _
  rw [chunkOf_colIx, laneOf_colIx]

/-- One octet of a block, read at an element. -/
theorem window_row {α : Type} (x : S16x8x1024.Idx → α) (k : Fin 16) (c : Fin 8) (s : Fin 8) (l : Fin 128) :
    VecWindow.window x ![k.val, 0, 128 * c.val] S1x8x128.size (row_inb k c) (ix3 0 s l) = x (ix3 k s (colIx c l)) := by
  refine congrArg x (funext fun a => Fin.ext ?_)
  match a with
  | 0 => rfl
  | 1 => show 0 + 1 * s.val = s.val; omega
  | 2 => show 128 * c.val + 1 * l.val = 128 * c.val + l.val; omega

/-- One block of a slab, read at an element. -/
theorem chunk_apply {α : Type} (x : S16x8x1024.Idx → α) (c : Fin 8) (k : Fin 16) (s : Fin 8) (l : Fin 128) :
    chunk x c (ix3 k s l) = x (ix3 k s (colIx c l)) := by
  refine congrArg x (funext fun a => Fin.ext ?_)
  match a with
  | 0 => show 0 + 1 * k.val = k.val; omega
  | 1 => show 0 + 1 * s.val = s.val; omega
  | 2 => show 128 * c.val + 1 * l.val = 128 * c.val + l.val; omega

/-- The sum of error functions kept at an element. -/
theorem bigV_apply (z d : S16x8x1024.Idx → Elt Ideal .f32) (k : Fin 16) (s : Fin 8) (y : Fin 1024) :
    bigV (F := Ideal) z d (ix3 k s y) = bigAt (F := Ideal) z d k (chunkOf y) (ix3 0 s (laneOf y)) := rfl

/-- The same, addressed by block and lane. -/
theorem bigAt_apply (z d : S16x8x1024.Idx → Elt Ideal .f32) (k : Fin 16) (s : Fin 8) (c : Fin 8) (l : Fin 128) :
    bigAt (F := Ideal) z d k c (ix3 0 s l) = kBig (z (ix3 k s (colIx c l))) (d (ix3 k s (colIx c l))) :=
  (rowPay_apply _ _ s l).trans (congrArg₂ kBig (window_row z k c s l) (window_row d k c s l))

/-- The same, from the blocks that were stored. -/
theorem big_apply (Z D : Fin 8 → S16x8x128.Idx → Elt Ideal .f32) (k : Fin 16) (s : Fin 8) (c : Fin 8) (l : Fin 128) :
    bigV (F := Ideal) (spread Z) (spread D) (ix3 k s (colIx c l)) = kBig (Z c (ix3 k s l)) (D c (ix3 k s l)) := by
  rw [bigV_apply, chunkOf_colIx, laneOf_colIx, bigAt_apply, spread_apply, spread_apply]

/-- A column's sum. -/
theorem colSum_apply (x : FVec Ideal S128x128 .f32) (l : Fin 128) :
    multiReduction .add [0] S128 x 0x00000000#32 reduces_S128x128_S128 (.inl rfl) rfl (ix1 l) = ∑ i : Fin 128, x (ix2 i l) := by
  refine (Ideal.multiReduction_add_single _ _ _ _ _ _).trans (Finset.sum_congr rfl fun i _ => ?_)
  exact congrArg x (funext fun a => match a with | 0 => rfl | 1 => rfl)

section
variable (x0 : Vec Ideal S128x1024 .f32) (x1 : Vec Ideal S128x1 .f32) (x2 : Vec Ideal S128x1024 .f32)
  (x3 : Vec Ideal S1025x2048 .f32) (x4 : Vec Ideal S1x2048 .f32) (x5 : Vec Ideal S2048x2048 .f32) (x6 : Vec Ideal S1x2048 .f32)

/-- The kernel's prediction for one element. -/
def predOf (i : Fin 128) (c : Fin 8) (l : Fin 128) : EReal :=
  kP
    (kZ (x1 (ix2 i 0)) (kGam (x1 (ix2 i 0)))
      (noised (kGam (x1 (ix2 i 0))) (x0 (ix2 i (colIx c l))) (x2 (ix2 i (colIx c l))))
      (outOf x0 x1 x2 x3 x4 x5 x6 i (meanIx c l)) (outOf x0 x1 x2 x3 x4 x5 x6 i (devIx c l)))
    (kD (x1 (ix2 i 0)) (kGam (x1 (ix2 i 0))) (outOf x0 x1 x2 x3 x4 x5 x6 i (devIx c l)))

/-- The squared error of one element. -/
def errOf (i : Fin 128) (c : Fin 8) (l : Fin 128) : EReal :=
  (x0 (ix2 i (colIx c l)) - predOf x0 x1 x2 x3 x4 x5 x6 i c l) * (x0 (ix2 i (colIx c l)) - predOf x0 x1 x2 x3 x4 x5 x6 i c l)

/-- One block adds its weighted squared error. -/
theorem errStep_apply (acc : FVec Ideal S128x128 .f32) (c : Fin 8) (i l : Fin 128) :
    errStep acc (chunk (bigV (spread (zV x0 x1 x2 x3 x4 x5 x6)) (spread (dV x0 x1 x2 x3 x4 x5 x6))) c)
        (chunk (spread (zV x0 x1 x2 x3 x4 x5 x6)) c) (chunk (spread (dV x0 x1 x2 x3 x4 x5 x6)) c) (cols x0 0 (by omega) c) (ix2 i l) =
      acc (ix2 i l) + errOf x0 x1 x2 x3 x4 x5 x6 i c l := by
  rw [errStep]
  simp only [addf_apply, mulf_apply, subf_apply, erf_apply, merge_apply, chunk_apply, spread_apply, z_apply,
    d_apply, rowIx_hi_lo, cols_apply]
  have e : (⟨0 + (128 * c.val + l.val), by have := c.isLt; have := l.isLt; omega⟩ : Fin 1024) = colIx c l :=
    Fin.ext (Nat.zero_add _)
  have hb : bigV (spread (zV x0 x1 x2 x3 x4 x5 x6)) (spread (dV x0 x1 x2 x3 x4 x5 x6)) (ix3 (rowHi i) (rowLo i) (colIx c l)) = _ :=
    (big_apply (zV x0 x1 x2 x3 x4 x5 x6) (dV x0 x1 x2 x3 x4 x5 x6) (rowHi i) (rowLo i) c l).trans
      (congrArg₂ kBig (z_apply x0 x1 x2 x3 x4 x5 x6 c _ _ l) (d_apply x0 x1 x2 x3 x4 x5 x6 c _ _ l))
  rw [e, hb, rowIx_hi_lo]
  rfl

/-- The squared errors of the first `n` blocks, summed. -/
theorem acc_apply (n : ℕ) (i l : Fin 128) :
    accV x0 x1 x2 x3 x4 x5 x6 n (ix2 i l) = ∑ c ∈ Finset.range n, errOf x0 x1 x2 x3 x4 x5 x6 i (Fin.ofNat 8 c) l := by
  induction n with
  | zero =>
    rw [accV, Finset.sum_range_zero]
    exact lit_zero.trans EReal.coe_zero
  | succ n ih => rw [accV, errStep_apply, ih, Finset.sum_range_succ]

/-- The body's output block, lane by lane. -/
theorem out_apply (l : Fin 128) :
    outV x0 x1 x2 x3 x4 x5 x6 (ix3 0 0 l) =
      ((-L * (1 / 262144) : ℝ) : EReal) *
        ∑ i : Fin 128, kWt (x1 (ix2 i 0)) * ∑ c : Fin 8, errOf x0 x1 x2 x3 x4 x5 x6 i c l := by
  unfold outV k0_pay1
  rw [shapeCast_ab_1ab_apply, mulf_apply, shapeCast_a_1a_apply]
  refine congrArg (((-L * (1 / 262144) : ℝ) : EReal) * ·) ((colSum_apply _ l).trans (Finset.sum_congr rfl fun i _ => ?_))
  rw [mulf_apply, col_apply, wt_apply, acc_apply, Finset.sum_range]
  refine congrArg (kWt (x1 (ix2 i 0)) * ·) (Finset.sum_congr rfl fun c _ => ?_)
  rw [show Fin.ofNat 8 c.val = c from Fin.ext (Nat.mod_eq_of_lt c.isLt)]
end

end Cert.KernelIdeal.Body

end
-- ==== Proof.KernelValue.lean ====
module

public import proofs.«01_k».proof.Proof.Launch
public import proofs.«01_k».proof.Proof.KernelSum

@[expose] public section

set_option maxRecDepth 16384

noncomputable section

namespace Cert.KernelIdeal.Body

open Cert.KernelIdeal.Gen
open Idealize.ShloMosaic Idealize.ShloMosaic.TcCoe Idealize.ShloMosaic.Tactic Idealize.ShloMosaic.ValueIdx
open Idealize.SL.Sem
open Cert.Elem
open scoped BigOperators

variable (m : (ℓ : Loc nD τ sig) → Buf (Elt Ideal) ℓ) (ρ : Dev nD → PrngReg)

/-! What the launch leaves in the result: the two blocks' sums, added. -/

/-- The grid has two points; `pt t` is the one numbered `t`. -/
abbrev pt (t : Fin 2) : Fin cfg0.N := ⟨t.val, lt_of_lt_of_eq t.isLt N_0.symm⟩

/-- Row `i` of block `t` of an array of 256 rows. -/
def row (t : Fin 2) (i : Fin 128) : Fin 256 := ⟨128 * t.val + i.val, by omega⟩

/-- The block a moving window is on at point `t` is block `t`; a window that stays is on block 0. -/
theorem at_0 : ∀ t : Fin 2, win0_0.index (pt t) (0 : Fin 2) = t.val ∧ win0_0.index (pt t) (1 : Fin 2) = 0 := by decide +kernel
/-- The times' block moves with the grid. -/
theorem at_1 : ∀ t : Fin 2, win0_1.index (pt t) (0 : Fin 2) = t.val ∧ win0_1.index (pt t) (1 : Fin 2) = 0 := by decide +kernel
/-- The noise's block moves with the grid. -/
theorem at_2 : ∀ t : Fin 2, win0_2.index (pt t) (0 : Fin 2) = t.val ∧ win0_2.index (pt t) (1 : Fin 2) = 0 := by decide +kernel
/-- The first weights are one block. -/
theorem at_3 : ∀ t : Fin 2, win0_3.index (pt t) (0 : Fin 2) = 0 ∧ win0_3.index (pt t) (1 : Fin 2) = 0 := by decide +kernel
/-- The first biases are one block. -/
theorem at_4 : ∀ t : Fin 2, win0_4.index (pt t) (0 : Fin 2) = 0 ∧ win0_4.index (pt t) (1 : Fin 2) = 0 := by decide +kernel
/-- The second weights are one block. -/
theorem at_5 : ∀ t : Fin 2, win0_5.index (pt t) (0 : Fin 2) = 0 ∧ win0_5.index (pt t) (1 : Fin 2) = 0 := by decide +kernel
/-- The second biases are one block. -/
theorem at_6 : ∀ t : Fin 2, win0_6.index (pt t) (0 : Fin 2) = 0 ∧ win0_6.index (pt t) (1 : Fin 2) = 0 := by decide +kernel
/-- The partial sums' block moves with the grid. -/
theorem at_7 : ∀ t : Fin 2, win0_7.index (pt t) (0 : Fin 3) = t.val ∧ win0_7.index (pt t) (1 : Fin 3) = 0
    ∧ win0_7.index (pt t) (2 : Fin 3) = 0 := by decide +kernel

/-- Block `t` of the data holds rows `128 t` and on. -/
theorem block_0 (c : Dev nD) (t : Fin 2) (i : Fin 128) (j : Fin 1024) :
    iblk m c 0 (pt t) (ix2 i j) = m ((c : Thread nD τ).loc main_arg0) (ix2 (row t i) j) := by
  obtain ⟨e0, e1⟩ := at_0 t
  rw [← V_main_arg0 m c]
  show V m c main_arg0 (((cfg0.win 0).blk (pt t)).view.emb (ix2 i j)) = _
  refine congrArg (V m c main_arg0) (funext fun a => Fin.ext ?_)
  match a with
  | ⟨0, _⟩ => show win0_0.index (pt t) (0 : Fin 2) * 128 + 1 * i.val = 128 * t.val + i.val; omega
  | ⟨1, _⟩ => show win0_0.index (pt t) (1 : Fin 2) * 1024 + 1 * j.val = j.val; omega

/-- Block `t` of the times. -/
theorem block_1 (c : Dev nD) (t : Fin 2) (i : Fin 128) :
    iblk m c 1 (pt t) (ix2 i (0 : Fin 1)) = m ((c : Thread nD τ).loc main_arg1) (ix2 (row t i) (0 : Fin 1)) := by
  obtain ⟨e0, e1⟩ := at_1 t
  rw [← V_main_arg1 m c]
  show V m c main_arg1 (((cfg0.win 1).blk (pt t)).view.emb (ix2 i (0 : Fin 1))) = _
  refine congrArg (V m c main_arg1) (funext fun a => Fin.ext ?_)
  match a with
  | ⟨0, _⟩ => show win0_1.index (pt t) (0 : Fin 2) * 128 + 1 * i.val = 128 * t.val + i.val; omega
  | ⟨1, _⟩ => show win0_1.index (pt t) (1 : Fin 2) * 1 + 1 * 0 = 0; omega

/-- Block `t` of the noise. -/
theorem block_2 (c : Dev nD) (t : Fin 2) (i : Fin 128) (j : Fin 1024) :
    iblk m c 2 (pt t) (ix2 i j) = m ((c : Thread nD τ).loc main_arg2) (ix2 (row t i) j) := by
  obtain ⟨e0, e1⟩ := at_2 t
  rw [← V_main_arg2 m c]
  show V m c main_arg2 (((cfg0.win 2).blk (pt t)).view.emb (ix2 i j)) = _
  refine congrArg (V m c main_arg2) (funext fun a => Fin.ext ?_)
  match a with
  | ⟨0, _⟩ => show win0_2.index (pt t) (0 : Fin 2) * 128 + 1 * i.val = 128 * t.val + i.val; omega
  | ⟨1, _⟩ => show win0_2.index (pt t) (1 : Fin 2) * 1024 + 1 * j.val = j.val; omega

/-- The first weights, whole. -/
theorem block_3 (c : Dev nD) (t : Fin 2) (i : Fin 1025) (j : Fin 2048) :
    iblk m c 3 (pt t) (ix2 i j) = m ((c : Thread nD τ).loc main_arg3) (ix2 i j) := by
  obtain ⟨e0, e1⟩ := at_3 t
  rw [← V_main_arg3 m c]
  show V m c main_arg3 (((cfg0.win 3).blk (pt t)).view.emb (ix2 i j)) = _
  refine congrArg (V m c main_arg3) (funext fun a => Fin.ext ?_)
  match a with
  | ⟨0, _⟩ => show win0_3.index (pt t) (0 : Fin 2) * 1025 + 1 * i.val = i.val; omega
  | ⟨1, _⟩ => show win0_3.index (pt t) (1 : Fin 2) * 2048 + 1 * j.val = j.val; omega

/-- The second weights, whole. -/
theorem block_5 (c : Dev nD) (t : Fin 2) (i j : Fin 2048) :
    iblk m c 5 (pt t) (ix2 i j) = m ((c : Thread nD τ).loc main_arg5) (ix2 i j) := by
  obtain ⟨e0, e1⟩ := at_5 t
  rw [← V_main_arg5 m c]
  show V m c main_arg5 (((cfg0.win 5).blk (pt t)).view.emb (ix2 i j)) = _
  refine congrArg (V m c main_arg5) (funext fun a => Fin.ext ?_)
  match a with
  | ⟨0, _⟩ => show win0_5.index (pt t) (0 : Fin 2) * 2048 + 1 * i.val = i.val; omega
  | ⟨1, _⟩ => show win0_5.index (pt t) (1 : Fin 2) * 2048 + 1 * j.val = j.val; omega

/-- Before the launch each bias vector is laid out as one row. -/
theorem bias_0 (c : Dev nD) : (V m c main_v0 : (⟨S1x2048, .f32⟩ : BufTy).Contents (Elt Ideal))
    = shapeCast S1x2048 (m ((c : Thread nD τ).loc main_arg4)) shapeCasts_S2048_S1x2048 := by
  show StableHlo.after hostOps0 _ _ = _
  after_results
  rfl
/-- The first biases, as one row. -/
theorem bias_1 (c : Dev nD) : (V m c main_v1 : (⟨S1x2048, .f32⟩ : BufTy).Contents (Elt Ideal))
    = shapeCast S1x2048 (m ((c : Thread nD τ).loc main_arg6)) shapeCasts_S2048_S1x2048 := by
  show StableHlo.after hostOps0 _ _ = _
  after_results
  rfl

/-- The first biases. -/
theorem block_4 (c : Dev nD) (t : Fin 2) (k : Fin 2048) :
    iblk m c 4 (pt t) (ix2 (0 : Fin 1) k) = m ((c : Thread nD τ).loc main_arg4) (ix1 k) := by
  obtain ⟨e0, e1⟩ := at_4 t
  have hb : ((cfg0.win 4).blk (pt t)).view.emb (ix2 (0 : Fin 1) k) = ix2 (0 : Fin 1) k := by
    refine funext fun a => Fin.ext ?_
    match a with
    | ⟨0, _⟩ => show win0_4.index (pt t) (0 : Fin 2) * 1 + 1 * 0 = 0; omega
    | ⟨1, _⟩ => show win0_4.index (pt t) (1 : Fin 2) * 2048 + 1 * k.val = k.val; omega
  refine (congrArg (V m c main_v0) hb).trans ((congrFun (bias_0 m c) _).trans ?_)
  exact shapeCast_a_1a_apply _ _ _ _

/-- The second biases. -/
theorem block_6 (c : Dev nD) (t : Fin 2) (k : Fin 2048) :
    iblk m c 6 (pt t) (ix2 (0 : Fin 1) k) = m ((c : Thread nD τ).loc main_arg6) (ix1 k) := by
  obtain ⟨e0, e1⟩ := at_6 t
  have hb : ((cfg0.win 6).blk (pt t)).view.emb (ix2 (0 : Fin 1) k) = ix2 (0 : Fin 1) k := by
    refine funext fun a => Fin.ext ?_
    match a with
    | ⟨0, _⟩ => show win0_6.index (pt t) (0 : Fin 2) * 1 + 1 * 0 = 0; omega
    | ⟨1, _⟩ => show win0_6.index (pt t) (1 : Fin 2) * 2048 + 1 * k.val = k.val; omega
  refine (congrArg (V m c main_v1) hb).trans ((congrFun (bias_1 m c) _).trans ?_)
  exact shapeCast_a_1a_apply _ _ _ _

/-- What the body leaves at point `t`, as a block. -/
def blockV (c : Dev nD) (t : Fin 2) : FVec Ideal S1x1x128 .f32 :=
  outV (iblk m c 0 (pt t)) (iblk m c 1 (pt t)) (iblk m c 2 (pt t)) (iblk m c 3 (pt t)) (iblk m c 4 (pt t)) (iblk m c 5 (pt t))
    (iblk m c 6 (pt t))

/-- The array the launch writes: block `t` of it is what point `t` leaves. -/
def partials (c : Dev nD) : FVec Ideal S2x1x128 .f32 := fun i => blockV m c (i 0) (ix3 (0 : Fin 1) (0 : Fin 1) (i 2))

/-- Where the partial sums of block `t` are stored. -/
theorem emb_7 (t : Fin 2) (j : S1x1x128.Idx) : ((cfg0.win 7).blk (pt t)).view.emb j = ix3 t (0 : Fin 1) (j 2) := by
  obtain ⟨e0, e1, e2⟩ := at_7 t
  refine funext fun a => Fin.ext ?_
  have h0 : (j 0).val < 1 := (j 0).isLt
  have h1 : (j 1).val < 1 := (j 1).isLt
  match a with
  | ⟨0, _⟩ => show win0_7.index (pt t) (0 : Fin 3) * 1 + 1 * (j 0).val = t.val; omega
  | ⟨1, _⟩ => show win0_7.index (pt t) (1 : Fin 3) * 1 + 1 * (j 1).val = 0; omega
  | ⟨2, _⟩ => show win0_7.index (pt t) (2 : Fin 3) * 128 + 1 * (j 2).val = (j 2).val; omega

/-- The array of partial sums at the end. -/
theorem arr_7 (c : Dev nD) : (dats m 0 c).arrAt 7 cfg0.N = partials m c := by
  refine (dats m 0 c).arrAt_eq_of_cover 7 (partials m c) (fun t _ => ?_) fun i => ?_
  · obtain ⟨t, rfl⟩ : ∃ s : Fin 2, t = pt s := ⟨⟨t.val, lt_of_lt_of_eq t.isLt N_0⟩, rfl⟩
    funext j
    show (dats m 0 c).after 7 (pt t) j = partials m c (((cfg0.win 7).blk (pt t)).view.emb j)
    rw [emb_7, after_7]
    show blockV m c t j = blockV m c t (ix3 (0 : Fin 1) (0 : Fin 1) (j 2))
    refine congrArg (blockV m c t) (funext fun a => Fin.ext ?_)
    have h0 : (j 0).val < 1 := (j 0).isLt
    have h1 : (j 1).val < 1 := (j 1).isLt
    match a with
    | ⟨0, _⟩ => show (j 0).val = 0; omega
    | ⟨1, _⟩ => show (j 1).val = 0; omega
    | ⟨2, _⟩ => rfl
  · refine ⟨pt (i 0), flush0_7 _, ?_⟩
    have h := ((cfg0.win 7).blk (pt (i 0))).view.emb_mem_set (ix3 (0 : Fin 1) (0 : Fin 1) (i 2))
    have e : ((cfg0.win 7).blk (pt (i 0))).view.emb (ix3 (0 : Fin 1) (0 : Fin 1) (i 2)) = i := by
      refine (emb_7 (i 0) _).trans (funext fun a => Fin.ext ?_)
      have h1 : (i 1).val < 1 := (i 1).isLt
      match a with
      | ⟨0, _⟩ => rfl
      | ⟨1, _⟩ => show 0 = (i 1).val; omega
      | ⟨2, _⟩ => rfl
    rwa [e] at h

/-- The result: every number of that array, added to zero. -/
theorem tail_v3 (c : Dev nD) : (Pipeline.afterTail₀ cfgs (dats m) 0 (V0 m) [hostOps1] c main_v3 : (⟨S_, .f32⟩ : BufTy).Contents (Elt Ideal))
    = Host.reduceAdd (F := Ideal) (partials m c) (constant (F := Ideal) S_ .f32 0x00000000#32) reducesTo_S2x1x128_S_d0_1_2 h_S_ := by
  unfold Pipeline.afterTail₀
  have h2 : Pipeline.withArrays (cfgs 0).spec c (V0 m c) (fun w => (dats m 0 c).arrAt w (cfgs 0).N) (Proc.devRef .tc main_v2) = partials m c :=
    (Pipeline.withArrays_arr (cfgs 0).spec winFacts0.arr_inj c (V0 m c) _ 7).trans (arr_7 m c)
  generalize Pipeline.withArrays (cfgs 0).spec c (V0 m c) (fun w => (dats m 0 c).arrAt w (cfgs 0).N) = W at h2 ⊢
  simp only [List.flatten_cons, List.flatten_nil, List.append_nil]
  after_results
  rw [h2]

end Cert.KernelIdeal.Body
end
-- ==== Proof.RefValue.lean ====
module

public import proofs.«01_k».proof.Proof.RefRead
public import proofs.«01_k».proof.Proof.Elem

@[expose] public section

set_option maxRecDepth 16384

noncomputable section

namespace Cert.ReferenceIdeal.Read

open Cert.ReferenceIdeal Cert.ReferenceIdeal.Gen
open Idealize.ShloMosaic Idealize.ShloMosaic.ValueIdx
open Cert.Elem
open scoped BigOperators

variable (x0 : (⟨S256x1024, .f32⟩ : BufTy).Contents (Elt Ideal)) (x1 : (⟨S256x1, .f32⟩ : BufTy).Contents (Elt Ideal))
  (x2 : (⟨S256x1024, .f32⟩ : BufTy).Contents (Elt Ideal)) (x3 : (⟨S1025x2048, .f32⟩ : BufTy).Contents (Elt Ideal))
  (x4 : (⟨S2048, .f32⟩ : BufTy).Contents (Elt Ideal)) (x5 : (⟨S2048x2048, .f32⟩ : BufTy).Contents (Elt Ideal))
  (x6 : (⟨S2048, .f32⟩ : BufTy).Contents (Elt Ideal))

/-! The reference, read one element at a time. -/

/-- An index with one coordinate, by its value. -/
theorem idx1_eq {a : ℕ} (i : (⟨1, ![a]⟩ : Shape).Idx) (p : Fin a) (h0 : (i 0).val = p.val) : i = ix1 p :=
  funext fun b => Fin.ext (match b with | ⟨0, _⟩ => h0)
/-- An index with two coordinates, by their values. -/
theorem idx2_eq {a b : ℕ} (i : (⟨2, ![a, b]⟩ : Shape).Idx) (p : Fin a) (q : Fin b) (h0 : (i 0).val = p.val)
    (h1 : (i 1).val = q.val) : i = ix2 p q :=
  funext fun c => Fin.ext (match c with | ⟨0, _⟩ => h0 | ⟨1, _⟩ => h1)

/-- A row's `γ`. -/
theorem gam_apply (b : Fin 256) : val_main_v5 (F := Ideal) x1 (ix2 b (0 : Fin 1)) = rGam (x1 (ix2 b (0 : Fin 1))) := by
  rw [val_main_v5_apply, val_main_v4_apply, val_main_v3_apply, val_main_v2_apply, val_main_v1_apply, val_main_v0_apply]
  rfl

/-- The noised element of row `b` and column `j`. -/
theorem noised_apply (b : Fin 256) (j : Fin 1024) : val_main_v13 (F := Ideal) x0 x1 x2 (ix2 b j)
    = noised (rGam (x1 (ix2 b (0 : Fin 1)))) (x0 (ix2 b j)) (x2 (ix2 b j)) := by
  rw [val_main_v13_apply, val_main_v7_apply, val_main_v12_apply, val_main_v6_apply, val_main_v11_apply,
    idx2_eq (idx_main_v6 (ix2 b j)) b (0 : Fin 1) rfl rfl, idx2_eq (idx_main_v11 (ix2 b j)) b (0 : Fin 1) rfl rfl,
    val_main_v10_apply, val_main_v9_apply, val_main_v8_apply, gam_apply]
  rfl

/-- The first layer's input: the noised row, then `t`. -/
theorem cat_left (b : Fin 256) (j : Fin 1024) : val_main_v14 (F := Ideal) x0 x1 x2 (ix2 b j.castSucc)
    = noised (rGam (x1 (ix2 b (0 : Fin 1)))) (x0 (ix2 b j)) (x2 (ix2 b j)) := by
  unfold val_main_v14
  exact (concatenate_pair_apply_left (s₁ := S256x1024) (s₂ := S256x1) 1 (val_main_v13 (F := Ideal) x0 x1 x2) x1
    concatenates_S256x1024_S256x1_S256x1025_d1 (ix2 b j.castSucc) rfl (ix2 b j)
    (fun a => match a with | ⟨0, _⟩ => rfl | ⟨1, _⟩ => rfl)).trans (noised_apply x0 x1 x2 b j)
/-- The time is the last column of the joined input. -/
theorem cat_last (b : Fin 256) : val_main_v14 (F := Ideal) x0 x1 x2 (ix2 b (Fin.last 1024)) = x1 (ix2 b (0 : Fin 1)) := by
  unfold val_main_v14
  exact concatenate_pair_apply_right (s₁ := S256x1024) (s₂ := S256x1) 1 (val_main_v13 (F := Ideal) x0 x1 x2) x1
    concatenates_S256x1024_S256x1_S256x1025_d1 (ix2 b (Fin.last 1024)) rfl rfl (ix2 b (0 : Fin 1))
    (fun a h => match a, h with | ⟨0, _⟩, _ => rfl | ⟨1, _⟩, h => absurd rfl h) rfl

/-- One hidden unit of a row. -/
def hid (b : Fin 256) (k : Fin 2048) : EReal :=
  hidden (rGam (x1 (ix2 b (0 : Fin 1)))) (x1 (ix2 b (0 : Fin 1))) (fun j => x0 (ix2 b j)) (fun j => x2 (ix2 b j))
    (fun j => x3 (ix2 j k)) (x4 (ix1 k))

/-- The first product, read at an element. -/
theorem dot_apply (b : Fin 256) (k : Fin 2048) : val_main_v15 (F := Ideal) x0 x1 x2 x3 (ix2 b k)
    = ∑ j : Fin 1024, noised (rGam (x1 (ix2 b (0 : Fin 1)))) (x0 (ix2 b j)) (x2 (ix2 b j)) * x3 (ix2 j.castSucc k)
      + x1 (ix2 b (0 : Fin 1)) * x3 (ix2 (Fin.last 1024) k) := by
  rw [val_main_v15_apply, Fin.sum_univ_castSucc]
  refine congrArg₂ (fun a b : EReal => a + b) (Finset.sum_congr rfl fun j _ => ?_) ?_
  · rw [idx2_eq (lidx_main_v15 (ix2 b k) j.castSucc) b j.castSucc rfl rfl,
      idx2_eq (ridx_main_v15 (ix2 b k) j.castSucc) j.castSucc k rfl rfl, cat_left]
  · rw [idx2_eq (lidx_main_v15 (ix2 b k) (Fin.last 1024)) b (Fin.last 1024) rfl rfl,
      idx2_eq (ridx_main_v15 (ix2 b k) (Fin.last 1024)) (Fin.last 1024) k rfl rfl, cat_last]

/-- The hidden unit `k` of row `b`. -/
theorem hid_apply (b : Fin 256) (k : Fin 2048) : val_main_v23 (F := Ideal) x0 x1 x2 x3 x4 (ix2 b k) = hid x0 x1 x2 x3 x4 b k := by
  have h : val_main_v18 (F := Ideal) x0 x1 x2 x3 x4 (ix2 b k)
      = ∑ j : Fin 1024, noised (rGam (x1 (ix2 b (0 : Fin 1)))) (x0 (ix2 b j)) (x2 (ix2 b j)) * x3 (ix2 j.castSucc k)
        + x1 (ix2 b (0 : Fin 1)) * x3 (ix2 (Fin.last 1024) k) + x4 (ix1 k) := by
    rw [val_main_v18_apply, dot_apply, val_main_v17_apply, idx2_eq (idx_main_v17 (ix2 b k)) (0 : Fin 1) k rfl rfl,
      val_main_v16_apply, idx1_eq (idx_main_v16 (ix2 (0 : Fin 1) k)) k rfl]
    rfl
  rw [val_main_v23_apply, val_main_v20_apply, val_main_v22_apply, val_main_v19_apply, val_main_v21_apply, h]
  rfl

/-- One output of the second layer. -/
def out (b : Fin 256) (k : Fin 2048) : EReal :=
  output (rGam (x1 (ix2 b (0 : Fin 1)))) (x1 (ix2 b (0 : Fin 1))) (fun j => x0 (ix2 b j)) (fun j => x2 (ix2 b j))
    (fun j k => x3 (ix2 j k)) (fun k => x4 (ix1 k)) (fun j => x5 (ix2 j k)) (x6 (ix1 k))

/-- The output `k` of row `b`. -/
theorem out_apply (b : Fin 256) (k : Fin 2048) : val_main_v27 (F := Ideal) x0 x1 x2 x3 x4 x5 x6 (ix2 b k) = out x0 x1 x2 x3 x4 x5 x6 b k := by
  rw [val_main_v27_apply, val_main_v24_apply, val_main_v26_apply, idx2_eq (idx_main_v26 (ix2 b k)) (0 : Fin 1) k rfl rfl,
    val_main_v25_apply, idx1_eq (idx_main_v25 (ix2 (0 : Fin 1) k)) k rfl]
  refine congrArg (· + x6 (ix1 k)) (Finset.sum_congr rfl fun j _ => ?_)
  rw [idx2_eq (lidx_main_v24 (ix2 b k) j) b j rfl rfl, idx2_eq (ridx_main_v24 (ix2 b k) j) j k rfl rfl, hid_apply]
  rfl

/-- The output that gives element `j`'s mean, and the one that gives its deviation. -/
def meanCol (j : Fin 1024) : Fin 2048 := ⟨j.val, by omega⟩
def devCol (j : Fin 1024) : Fin 2048 := ⟨1024 + j.val, by omega⟩

/-- The reference's mean of one element. -/
def muxOf (b : Fin 256) (j : Fin 1024) : EReal :=
  rMux (x1 (ix2 b (0 : Fin 1))) (rGam (x1 (ix2 b (0 : Fin 1))))
    (noised (rGam (x1 (ix2 b (0 : Fin 1)))) (x0 (ix2 b j)) (x2 (ix2 b j))) (out x0 x1 x2 x3 x4 x5 x6 b (meanCol j))
/-- The reference's `1 / (σ √2)` of one element. -/
def invOf (b : Fin 256) (j : Fin 1024) : EReal :=
  rInv (x1 (ix2 b (0 : Fin 1))) (rGam (x1 (ix2 b (0 : Fin 1)))) (out x0 x1 x2 x3 x4 x5 x6 b (devCol j))

/-- The root that scales row `b`. -/
theorem root_apply (b : Fin 256) : val_main_v33 (F := Ideal) x1 (ix2 b (0 : Fin 1)) = rR (rGam (x1 (ix2 b (0 : Fin 1)))) := by
  rw [val_main_v33_apply, val_main_v32_apply, val_main_v31_apply, val_main_v30_apply, gam_apply]
  rfl

/-- The predicted mean of an element. -/
theorem mux_apply (b : Fin 256) (j : Fin 1024) :
    val_main_v44 (F := Ideal) x0 x1 x2 x3 x4 x5 x6 (ix2 b j) = muxOf x0 x1 x2 x3 x4 x5 x6 b j := by
  rw [val_main_v44_apply, val_main_call1_v1_apply, val_main_call1_v2_apply, val_main_call1_v0_apply, val_main_v38_apply,
    val_main_v35_apply, val_main_v37_apply, val_main_v34_apply, val_main_v36_apply, val_main_v28_apply,
    idx2_eq (idx_main_call1_v1 (ix2 b j)) b (0 : Fin 1) rfl rfl, idx2_eq (idx_main_v34 (ix2 b j)) b (0 : Fin 1) rfl rfl,
    idx2_eq (idx_main_v36 (ix2 b j)) b (0 : Fin 1) rfl rfl, idx2_eq (idx_main_v28 (ix2 b j)) b (meanCol j) rfl rfl,
    noised_apply, gam_apply, root_apply, out_apply, val_main_v43_apply, val_main_v42_apply]
  rfl

/-- The reciprocal of its scaled deviation. -/
theorem inv_apply (b : Fin 256) (j : Fin 1024) :
    val_main_v73 (F := Ideal) x0 x1 x2 x3 x4 x5 x6 (ix2 b j) = invOf x0 x1 x2 x3 x4 x5 x6 b j := by
  rw [val_main_v73_apply, val_main_v72_apply, val_main_v71_apply, val_main_v70_apply, val_main_v69_apply, val_main_v45_apply,
    val_main_call2_v1_apply, val_main_call2_v2_apply, val_main_call2_v0_apply, val_main_v41_apply, val_main_v40_apply,
    val_main_v39_apply, val_main_v29_apply,
    idx2_eq (idx_main_call2_v1 (ix2 b j)) b (0 : Fin 1) rfl rfl, idx2_eq (idx_main_v40 (ix2 b j)) b (0 : Fin 1) rfl rfl,
    idx2_eq (idx_main_v29 (ix2 b j)) b (devCol j) rfl rfl, root_apply, out_apply, val_main_v43_apply, val_main_v42_apply]
  rfl

/-- The number of a bin, as a float. -/
theorem bin_apply (k : Fin 128) : val_main_v46 (F := Ideal) (ix1 k) = ((k.val : ℝ) : EReal) := by
  unfold val_main_v46
  show ((((BitVec.ofNat 32 k.val).toInt : ℤ) : ℝ) : EReal) = _
  have h : (BitVec.ofNat 32 k.val).toInt = (k.val : ℤ) := by revert k; decide
  rw [h, Int.cast_natCast]

/-- The right edge of bin `k`. -/
theorem right_apply (k : Fin 128) : val_main_v60 (F := Ideal) (ix1 k) = rKr ((k.val : ℝ) : EReal) := by
  rw [val_main_v60_apply, val_main_v59_apply, val_main_v58_apply, val_main_v57_apply, val_main_v56_apply, val_main_v55_apply,
    bin_apply]
  rfl
/-- The left edge of bin `k`. -/
theorem left_apply (k : Fin 128) : val_main_v54 (F := Ideal) (ix1 k) = rKl ((k.val : ℝ) : EReal) := by
  rw [val_main_v54_apply, val_main_v53_apply, val_main_v52_apply, val_main_v51_apply, val_main_v50_apply, val_main_v49_apply,
    val_main_v48_apply, val_main_v47_apply, bin_apply]
  rfl
/-- The centre of bin `k`. -/
theorem centre_apply (k : Fin 128) : val_main_v68 (F := Ideal) (ix1 k) = rKc ((k.val : ℝ) : EReal) := by
  rw [val_main_v68_apply, val_main_v67_apply, val_main_v66_apply, val_main_v65_apply, val_main_v64_apply, val_main_v63_apply,
    val_main_v62_apply, val_main_v61_apply, bin_apply]
  rfl

/-- The distribution at the right edge of bin `k`. -/
theorem cdf_right (b : Fin 256) (j : Fin 1024) (k : Fin 128) :
    val_main_v92 (F := Ideal) x0 x1 x2 x3 x4 x5 x6 (ix3 b j k)
      = rCdf (muxOf x0 x1 x2 x3 x4 x5 x6 b j) (invOf x0 x1 x2 x3 x4 x5 x6 b j) (rKr ((k.val : ℝ) : EReal)) := by
  rw [val_main_v92_apply, val_main_call4_v1_apply, val_main_call4_v2_apply, val_main_call4_v0_apply, val_main_v91_apply,
    val_main_call3_v1_apply, val_main_call3_v2_apply, val_main_call3_v0_apply, val_main_v86_apply, val_main_v85_apply,
    val_main_v84_apply, val_main_v83_apply, val_main_v82_apply, val_main_v81_apply, val_main_v80_apply, val_main_v79_apply,
    val_main_v78_apply, val_main_v77_apply, val_main_v76_apply, val_main_v75_apply, val_main_v74_apply,
    idx1_eq (idx_main_call4_v1 (ix3 b j k)) k rfl, idx1_eq (idx_main_call3_v1 (ix3 b j k)) k rfl,
    idx1_eq (idx_main_v74 (idx_main_v76 (ix3 b j k))) k rfl, idx2_eq (idx_main_v75 (idx_main_v77 (ix3 b j k))) b j rfl rfl,
    idx2_eq (idx_main_v79 (idx_main_v80 (ix3 b j k))) b j rfl rfl,
    val_main_v88_apply, val_main_v90_apply, val_main_v87_apply, val_main_v89_apply, right_apply, mux_apply, inv_apply]
  rfl

/-- The distribution at the left edge of bin `k`. -/
theorem cdf_left (b : Fin 256) (j : Fin 1024) (k : Fin 128) :
    val_main_v111 (F := Ideal) x0 x1 x2 x3 x4 x5 x6 (ix3 b j k)
      = rCdf (muxOf x0 x1 x2 x3 x4 x5 x6 b j) (invOf x0 x1 x2 x3 x4 x5 x6 b j) (rKl ((k.val : ℝ) : EReal)) := by
  rw [val_main_v111_apply, val_main_call6_v1_apply, val_main_call6_v2_apply, val_main_call6_v0_apply, val_main_v110_apply,
    val_main_call5_v1_apply, val_main_call5_v2_apply, val_main_call5_v0_apply, val_main_v105_apply, val_main_v104_apply,
    val_main_v103_apply, val_main_v102_apply, val_main_v101_apply, val_main_v100_apply, val_main_v99_apply, val_main_v98_apply,
    val_main_v97_apply, val_main_v96_apply, val_main_v95_apply, val_main_v94_apply, val_main_v93_apply,
    idx1_eq (idx_main_call6_v1 (ix3 b j k)) k rfl, idx1_eq (idx_main_call5_v1 (ix3 b j k)) k rfl,
    idx1_eq (idx_main_v93 (idx_main_v95 (ix3 b j k))) k rfl, idx2_eq (idx_main_v94 (idx_main_v96 (ix3 b j k))) b j rfl rfl,
    idx2_eq (idx_main_v98 (idx_main_v99 (ix3 b j k))) b j rfl rfl,
    val_main_v107_apply, val_main_v109_apply, val_main_v106_apply, val_main_v108_apply, left_apply, mux_apply, inv_apply]
  rfl

/-- The reference's prediction of one element. -/
theorem pred_apply (b : Fin 256) (j : Fin 1024) : val_main_v116 (F := Ideal) x0 x1 x2 x3 x4 x5 x6 (ix2 b j)
    = rP (muxOf x0 x1 x2 x3 x4 x5 x6 b j) (invOf x0 x1 x2 x3 x4 x5 x6 b j) := by
  rw [val_main_v116_apply]
  refine congrArg (fun a : EReal => lit 0x00000000#32 + a) (Finset.sum_congr rfl fun k _ => ?_)
  have e : idx_main_v116 (ix2 b j) k = ix3 b j k := funext fun c => Fin.ext (match c with | ⟨0, _⟩ => rfl | ⟨1, _⟩ => rfl | ⟨2, _⟩ => rfl)
  rw [e, val_main_v115_apply, val_main_v114_apply, val_main_v113_apply, idx1_eq (idx_main_v113 (idx_main_v114 (ix3 b j k))) k rfl,
    centre_apply, val_main_v112_apply, cdf_right, cdf_left]
  rfl

/-- The squared error of one element. -/
def errOf (b : Fin 256) (j : Fin 1024) : EReal :=
  (x0 (ix2 b j) - rP (muxOf x0 x1 x2 x3 x4 x5 x6 b j) (invOf x0 x1 x2 x3 x4 x5 x6 b j))
    * (x0 (ix2 b j) - rP (muxOf x0 x1 x2 x3 x4 x5 x6 b j) (invOf x0 x1 x2 x3 x4 x5 x6 b j))

/-- The weighted squared error of an element. -/
theorem term_apply (b : Fin 256) (j : Fin 1024) : val_main_v126 (F := Ideal) x0 x1 x2 x3 x4 x5 x6 (ix2 b j)
    = rWt (x1 (ix2 b (0 : Fin 1))) * errOf x0 x1 x2 x3 x4 x5 x6 b j := by
  rw [val_main_v126_apply, val_main_v125_apply, idx2_eq (idx_main_v125 (ix2 b j)) b (0 : Fin 1) rfl rfl, val_main_v124_apply,
    val_main_v123_apply, val_main_v122_apply, val_main_v121_apply, val_main_v118_apply, val_main_v117_apply, pred_apply]
  rfl

/-- The reference's result. -/
theorem result_apply (i : S_.Idx) : val_main_v129 (F := Ideal) x0 x1 x2 x3 x4 x5 x6 i
    = -Ideal.log (lit 0x3CA3D70A#32) *
      Ideal.div (lit 0x00000000#32 + ∑ b : Fin 256, ∑ j : Fin 1024, rWt (x1 (ix2 b (0 : Fin 1))) * errOf x0 x1 x2 x3 x4 x5 x6 b j)
        (lit 0x48800000#32) := by
  have h : ∑ j : S256x1024.Idx, (val_main_v126 (F := Ideal) x0 x1 x2 x3 x4 x5 x6) j
      = ∑ b : Fin 256, ∑ j : Fin 1024, rWt (x1 (ix2 b (0 : Fin 1))) * errOf x0 x1 x2 x3 x4 x5 x6 b j := by
    refine (sum_idx2 _).trans (Finset.sum_congr rfl fun b _ => Finset.sum_congr rfl fun j _ => ?_)
    exact term_apply x0 x1 x2 x3 x4 x5 x6 b j
  rw [val_main_v129_apply, val_main_v120_apply, val_main_v119_apply, val_main_v128_apply, val_main_v127_apply, h]
  rfl

end Cert.ReferenceIdeal.Read
end
-- ==== Proof.Equal.lean ====
module

public import proofs.«01_k».proof.Proof.KernelValue
public import proofs.«01_k».proof.Proof.RefValue

@[expose] public section

set_option maxRecDepth 16384

noncomputable section

namespace Cert.Equal

open Idealize.ShloMosaic Idealize.ShloMosaic.TcCoe Idealize.ShloMosaic.ValueIdx
open Idealize.SL.Sem
open Cert.KernelIdeal Cert.KernelIdeal.Gen Cert.KernelIdeal.Body
open Cert.Elem
open scoped BigOperators

/-! The two results are one number. -/

/-- A sum over `m n` terms, as `m` sums of `n`. -/
theorem sum_split (m n k : ℕ) (h : m * n = k) (f : Fin k → ℝ) :
    ∑ b, f b = ∑ t : Fin m, ∑ i : Fin n,
      f ⟨n * t.val + i.val, by
        have := t.isLt; have := i.isLt; subst h
        calc n * t.val + i.val < n * t.val + n := by omega
          _ = n * (t.val + 1) := by ring
          _ ≤ n * m := Nat.mul_le_mul_left n (by omega)
          _ = m * n := by ring⟩ := by
  subst h
  rw [← finProdFinEquiv.sum_comp, Fintype.sum_prod_type]
  refine Finset.sum_congr rfl fun t _ => Finset.sum_congr rfl fun i _ => congrArg f (Fin.ext ?_)
  show i.val + n * t.val = n * t.val + i.val
  omega

/-- The kernel scales each partial sum and groups the terms; the reference scales once. -/
theorem regroup (K : ℝ) (w : Fin 256 → ℝ) (e : Fin 256 → Fin 1024 → ℝ) :
    ∑ t : Fin 2, ∑ l : Fin 128, K * ∑ i : Fin 128, w (row t i) * ∑ c : Fin 8, e (row t i) (colIx c l)
      = K * ∑ b : Fin 256, ∑ j : Fin 1024, w b * e b j := by
  rw [sum_split 2 128 256 rfl, Finset.mul_sum]
  refine Finset.sum_congr rfl fun t _ => ?_
  rw [← Finset.mul_sum, Finset.sum_comm]
  refine congrArg (K * ·) (Finset.sum_congr rfl fun i _ => ?_)
  rw [sum_split 8 128 1024 rfl, ← Finset.mul_sum, Finset.sum_comm, Finset.mul_sum]
  refine Finset.sum_congr rfl fun c _ => ?_
  rw [Finset.mul_sum]
  rfl

/-- The index of the partial sum of a tile and a lane. -/
def partialAt : Fin 2 × Fin 128 ≃ S2x1x128.Idx where
  toFun p := ix3 p.1 (0 : Fin 1) p.2
  invFun i := (i 0, i 2)
  left_inv _ := rfl
  right_inv i := by
    funext k
    match k with
    | ⟨0, _⟩ => rfl
    | ⟨1, _⟩ => exact Subsingleton.elim (α := Fin 1) _ _
    | ⟨2, _⟩ => rfl

/-- A sum over all partial sums goes tile by tile and lane by lane. -/
theorem sum_partials (f : S2x1x128.Idx → EReal) : ∑ i, f i = ∑ t : Fin 2, ∑ l : Fin 128, f (ix3 t (0 : Fin 1) l) := by
  rw [← partialAt.sum_comp, Fintype.sum_prod_type]
  rfl

/-- The logarithm of the word of 0.02. -/
theorem log_sigma : Ideal.log (lit 0x3CA3D70A#32) = ((L : ℝ) : EReal) := by
  rw [lit_sigma, Ideal.log_coe, if_neg (by norm_num)]; rfl

/-- The reference's result over real terms. -/
theorem reference_real (w : Fin 256 → ℝ) (e : Fin 256 → Fin 1024 → ℝ) :
    -Ideal.log (lit 0x3CA3D70A#32) *
      Ideal.div (lit 0x00000000#32 + ∑ b : Fin 256, ∑ j : Fin 1024, ((w b : ℝ) : EReal) * ((e b j : ℝ) : EReal)) (lit 0x48800000#32)
      = ((-L * (1 / 262144) * ∑ b : Fin 256, ∑ j : Fin 1024, w b * e b j : ℝ) : EReal) := by
  have h : ∑ b : Fin 256, ∑ j : Fin 1024, ((w b : ℝ) : EReal) * ((e b j : ℝ) : EReal)
      = ((∑ b : Fin 256, ∑ j : Fin 1024, w b * e b j : ℝ) : EReal) := by
    rw [coe_sum]
    refine Finset.sum_congr rfl fun b _ => ?_
    rw [coe_sum]
    exact Finset.sum_congr rfl fun j _ => (EReal.coe_mul _ _).symm
  rw [h, log_sigma, lit_zero, lit_count, ← EReal.coe_add, div_coe' (by norm_num), ← EReal.coe_neg, ← EReal.coe_mul]
  exact congrArg Real.toEReal (by ring)

/-- The kernel's result over real terms. -/
theorem kernel_real (w : Fin 256 → ℝ) (e : Fin 256 → Fin 1024 → ℝ) :
    lit 0x00000000#32 + ∑ t : Fin 2, ∑ l : Fin 128, ((-L * (1 / 262144) : ℝ) : EReal) *
        ∑ i : Fin 128, ((w (row t i) : ℝ) : EReal) * ∑ c : Fin 8, ((e (row t i) (colIx c l) : ℝ) : EReal)
      = ((-L * (1 / 262144) * ∑ b : Fin 256, ∑ j : Fin 1024, w b * e b j : ℝ) : EReal) := by
  rw [← regroup, lit_zero, EReal.coe_zero, zero_add, coe_sum]
  refine Finset.sum_congr rfl fun t _ => ?_
  rw [coe_sum]
  refine Finset.sum_congr rfl fun l _ => ?_
  rw [EReal.coe_mul (-L * (1 / 262144)), coe_sum]
  refine congrArg (((-L * (1 / 262144) : ℝ) : EReal) * ·) (Finset.sum_congr rfl fun i _ => ?_)
  rw [EReal.coe_mul, coe_sum]

section
variable (a0 : FVec Ideal S256x1024 .f32) (a1 : FVec Ideal S256x1 .f32) (a2 : FVec Ideal S256x1024 .f32)
  (a3 : FVec Ideal S1025x2048 .f32) (a4 : FVec Ideal S2048 .f32) (a5 : FVec Ideal S2048x2048 .f32) (a6 : FVec Ideal S2048 .f32)

/-- Every element of every argument is a real number. -/
structure Real : Prop where
  r0 : ∀ i, IsR (a0 i)
  r1 : ∀ i, IsR (a1 i)
  r2 : ∀ i, IsR (a2 i)
  r3 : ∀ i, IsR (a3 i)
  r4 : ∀ i, IsR (a4 i)
  r5 : ∀ i, IsR (a5 i)
  r6 : ∀ i, IsR (a6 i)

variable {a0 a1 a2 a3 a4 a5 a6} (H : Real a0 a1 a2 a3 a4 a5 a6)
include H

/-- The reference's outputs are real. -/
theorem out_real (b : Fin 256) (k : Fin 2048) : IsR (ReferenceIdeal.Read.out a0 a1 a2 a3 a4 a5 a6 b k) := by
  have hg := isR_kGam (H.r1 (ix2 b (0 : Fin 1)))
  rw [gam_eq (H.r1 _)] at hg
  exact isR_output hg (H.r1 _) (fun j => H.r0 _) (fun j => H.r2 _) (fun j k => H.r3 _) (fun k => H.r4 _) (fun k => H.r5 _) (H.r6 _)

/-- The kernel's prediction of an element is the reference's, a real number. -/
theorem predicted (b : Fin 256) (j : Fin 1024) :
    IsR (rP (ReferenceIdeal.Read.muxOf a0 a1 a2 a3 a4 a5 a6 b j) (ReferenceIdeal.Read.invOf a0 a1 a2 a3 a4 a5 a6 b j)) ∧
    kP (kZ (a1 (ix2 b (0 : Fin 1))) (kGam (a1 (ix2 b (0 : Fin 1))))
        (noised (kGam (a1 (ix2 b (0 : Fin 1)))) (a0 (ix2 b j)) (a2 (ix2 b j)))
        (ReferenceIdeal.Read.out a0 a1 a2 a3 a4 a5 a6 b (ReferenceIdeal.Read.meanCol j))
        (ReferenceIdeal.Read.out a0 a1 a2 a3 a4 a5 a6 b (ReferenceIdeal.Read.devCol j)))
      (kD (a1 (ix2 b (0 : Fin 1))) (kGam (a1 (ix2 b (0 : Fin 1))))
        (ReferenceIdeal.Read.out a0 a1 a2 a3 a4 a5 a6 b (ReferenceIdeal.Read.devCol j)))
      = rP (ReferenceIdeal.Read.muxOf a0 a1 a2 a3 a4 a5 a6 b j) (ReferenceIdeal.Read.invOf a0 a1 a2 a3 a4 a5 a6 b j) := by
  have h := prediction (H.r1 (ix2 b (0 : Fin 1)))
    (isR_noised (isR_kGam (H.r1 (ix2 b (0 : Fin 1)))) (H.r0 (ix2 b j)) (H.r2 (ix2 b j)))
    (out_real H b (ReferenceIdeal.Read.meanCol j)) (out_real H b (ReferenceIdeal.Read.devCol j))
  unfold ReferenceIdeal.Read.muxOf ReferenceIdeal.Read.invOf
  rw [← gam_eq (H.r1 (ix2 b (0 : Fin 1)))]
  exact h

/-- The reference's squared errors are real. -/
theorem err_real (b : Fin 256) (j : Fin 1024) : IsR (ReferenceIdeal.Read.errOf a0 a1 a2 a3 a4 a5 a6 b j) :=
  ((H.r0 _).sub (predicted H b j).1).mul ((H.r0 _).sub (predicted H b j).1)
end

variable (m : (ℓ : Loc nD τ sig) → Buf (Elt Ideal) ℓ)

/-- The arguments as launched. -/
abbrev arg0 (c : Dev nD) : FVec Ideal S256x1024 .f32 := m ((c : Thread nD τ).loc main_arg0)
abbrev arg1 (c : Dev nD) : FVec Ideal S256x1 .f32 := m ((c : Thread nD τ).loc main_arg1)
abbrev arg2 (c : Dev nD) : FVec Ideal S256x1024 .f32 := m ((c : Thread nD τ).loc main_arg2)
abbrev arg3 (c : Dev nD) : FVec Ideal S1025x2048 .f32 := m ((c : Thread nD τ).loc main_arg3)
abbrev arg4 (c : Dev nD) : FVec Ideal S2048 .f32 := m ((c : Thread nD τ).loc main_arg4)
abbrev arg5 (c : Dev nD) : FVec Ideal S2048x2048 .f32 := m ((c : Thread nD τ).loc main_arg5)
abbrev arg6 (c : Dev nD) : FVec Ideal S2048 .f32 := m ((c : Thread nD τ).loc main_arg6)

/-- One output over a block is that output of the block's row. -/
theorem block_out (c : Dev nD) (H : Real (arg0 m c) (arg1 m c) (arg2 m c) (arg3 m c) (arg4 m c) (arg5 m c) (arg6 m c))
    (t : Fin 2) (i : Fin 128) (k : Fin 2048) :
    outOf (iblk m c 0 (pt t)) (iblk m c 1 (pt t)) (iblk m c 2 (pt t)) (iblk m c 3 (pt t)) (iblk m c 4 (pt t)) (iblk m c 5 (pt t))
        (iblk m c 6 (pt t)) i k
      = ReferenceIdeal.Read.out (arg0 m c) (arg1 m c) (arg2 m c) (arg3 m c) (arg4 m c) (arg5 m c) (arg6 m c) (row t i) k := by
  unfold outOf ReferenceIdeal.Read.out
  have h0 : (fun j => iblk m c 0 (pt t) (ix2 i j)) = fun j => arg0 m c (ix2 (row t i) j) := funext fun j => block_0 m c t i j
  have h2 : (fun j => iblk m c 2 (pt t) (ix2 i j)) = fun j => arg2 m c (ix2 (row t i) j) := funext fun j => block_2 m c t i j
  have h3 : (fun j k => iblk m c 3 (pt t) (ix2 j k)) = fun j k => arg3 m c (ix2 j k) :=
    funext fun j => funext fun k => block_3 m c t j k
  have h4 : (fun k => iblk m c 4 (pt t) (ix2 (0 : Fin 1) k)) = fun k => arg4 m c (ix1 k) := funext fun k => block_4 m c t k
  have h5 : (fun j => iblk m c 5 (pt t) (ix2 j k)) = fun j => arg5 m c (ix2 j k) := funext fun j => block_5 m c t j k
  have h1 : iblk m c 1 (pt t) (ix2 i (0 : Fin 1)) = arg1 m c (ix2 (row t i) (0 : Fin 1)) := block_1 m c t i
  have h6 : iblk m c 6 (pt t) (ix2 (0 : Fin 1) k) = arg6 m c (ix1 k) := block_6 m c t k
  rw [← gam_eq (H.r1 _)]
  exact congr (congr (congr (congr (congr (congr (congrArg₂ (fun g t => output g t) (congrArg kGam h1) h1) h0) h2) h3) h4) h5) h6

/-- The kernel's squared error of an element is the reference's. -/
theorem block_err (c : Dev nD) (H : Real (arg0 m c) (arg1 m c) (arg2 m c) (arg3 m c) (arg4 m c) (arg5 m c) (arg6 m c))
    (t : Fin 2) (i l : Fin 128) (s : Fin 8) :
    errOf (iblk m c 0 (pt t)) (iblk m c 1 (pt t)) (iblk m c 2 (pt t)) (iblk m c 3 (pt t)) (iblk m c 4 (pt t)) (iblk m c 5 (pt t))
        (iblk m c 6 (pt t)) i s l
      = ReferenceIdeal.Read.errOf (arg0 m c) (arg1 m c) (arg2 m c) (arg3 m c) (arg4 m c) (arg5 m c) (arg6 m c) (row t i) (colIx s l) := by
  have e0 : iblk m c 0 (pt t) (ix2 i (colIx s l)) = arg0 m c (ix2 (row t i) (colIx s l)) := block_0 m c t i _
  have e1 : iblk m c 1 (pt t) (ix2 i (0 : Fin 1)) = arg1 m c (ix2 (row t i) (0 : Fin 1)) := block_1 m c t i
  have e2 : iblk m c 2 (pt t) (ix2 i (colIx s l)) = arg2 m c (ix2 (row t i) (colIx s l)) := block_2 m c t i _
  have em : meanIx s l = ReferenceIdeal.Read.meanCol (colIx s l) := Fin.ext (Nat.zero_add _)
  have ed : devIx s l = ReferenceIdeal.Read.devCol (colIx s l) := rfl
  have hp : predOf (iblk m c 0 (pt t)) (iblk m c 1 (pt t)) (iblk m c 2 (pt t)) (iblk m c 3 (pt t)) (iblk m c 4 (pt t))
      (iblk m c 5 (pt t)) (iblk m c 6 (pt t)) i s l
        = rP (ReferenceIdeal.Read.muxOf (arg0 m c) (arg1 m c) (arg2 m c) (arg3 m c) (arg4 m c) (arg5 m c) (arg6 m c) (row t i) (colIx s l))
          (ReferenceIdeal.Read.invOf (arg0 m c) (arg1 m c) (arg2 m c) (arg3 m c) (arg4 m c) (arg5 m c) (arg6 m c) (row t i) (colIx s l)) := by
    unfold predOf
    rw [block_out m c H, block_out m c H, em, ed]
    refine Eq.trans ?_ (predicted H (row t i) (colIx s l)).2
    exact congrArg₂ kP
      (congrArg₂ (fun t n => kZ t (kGam t) n _ _) e1
        (congr (congr (congrArg (fun t => noised (kGam t)) e1) e0) e2))
      (congrArg (fun t => kD t (kGam t) _) e1)
  unfold errOf ReferenceIdeal.Read.errOf
  rw [hp]
  exact congrArg (fun x : EReal => (x - _) * (x - _)) e0

/-- The kernel's result, in the reference's terms. -/
theorem kernel_sum (c : Dev nD) (H : Real (arg0 m c) (arg1 m c) (arg2 m c) (arg3 m c) (arg4 m c) (arg5 m c) (arg6 m c)) (i : S_.Idx) :
    Host.reduceAdd (F := Ideal) (partials m c) (constant (F := Ideal) S_ .f32 0x00000000#32) reducesTo_S2x1x128_S_d0_1_2 h_S_ i
      = lit 0x00000000#32 + ∑ t : Fin 2, ∑ l : Fin 128, ((-L * (1 / 262144) : ℝ) : EReal) *
        ∑ i : Fin 128, rWt (arg1 m c (ix2 (row t i) (0 : Fin 1))) * ∑ s : Fin 8,
          ReferenceIdeal.Read.errOf (arg0 m c) (arg1 m c) (arg2 m c) (arg3 m c) (arg4 m c) (arg5 m c) (arg6 m c) (row t i) (colIx s l) := by
  refine (Ideal.hostReduceAdd_total reducesTo_S2x1x128_S_d0_1_2 (fun b => b.elim0) (partials m c) _ i).trans ?_
  refine congrArg (fun a : EReal => lit 0x00000000#32 + a) ((sum_partials _).trans (Finset.sum_congr rfl fun t _ => ?_))
  refine Finset.sum_congr rfl fun l _ => ?_
  refine (Body.out_apply _ _ _ _ _ _ _ l).trans ?_
  refine congrArg (((-L * (1 / 262144) : ℝ) : EReal) * ·) (Finset.sum_congr rfl fun i _ => ?_)
  refine congrArg₂ (fun a b : EReal => a * b) ?_ (Finset.sum_congr rfl fun s _ => block_err m c H t i l s)
  exact (congrArg kWt (block_1 m c t i)).trans (wt_eq (H.r1 _))

/-- On real arguments the kernel's result is the reference's. -/
theorem results (c : Dev nD) (H : Real (arg0 m c) (arg1 m c) (arg2 m c) (arg3 m c) (arg4 m c) (arg5 m c) (arg6 m c)) (i : S_.Idx) :
    Host.reduceAdd (F := Ideal) (partials m c) (constant (F := Ideal) S_ .f32 0x00000000#32) reducesTo_S2x1x128_S_d0_1_2 h_S_ i
      = ReferenceIdeal.Read.val_main_v129 (F := Ideal) (arg0 m c) (arg1 m c) (arg2 m c) (arg3 m c) (arg4 m c) (arg5 m c) (arg6 m c) i := by
  rw [kernel_sum m c H, ReferenceIdeal.Read.result_apply]
  choose w hw using fun b : Fin 256 => isR_kWt (H.r1 (ix2 b (0 : Fin 1)))
  choose e he using fun b j => err_real H b j
  have hw' : ∀ b : Fin 256, rWt (arg1 m c (ix2 b (0 : Fin 1))) = ((w b : ℝ) : EReal) := fun b => (wt_eq (H.r1 _)).symm.trans (hw b)
  simp only [hw', he]
  exact (kernel_real w e).trans (reference_real w e).symm

end Cert.Equal
end
-- ==== Proof.Finite.lean ====
module

public import proofs.«01_k».proof.Pre_finite
public import proofs.«01_k».proof.Proof.Elem
public import Idealize.ShloMosaic.Lib.ReduceAll

@[expose] public section

noncomputable section

namespace Cert.Pre_finite

open Idealize.ShloMosaic
open Cert.Elem

/-! The precondition says that every element of every argument is a real number. -/

/-- An element whose magnitude lies below infinity is a real number. -/
theorem isR_of_below (x : EReal) (h : Ideal.cmp .olt (max x (-x)) (Ideal.ofBits .f32 0x7F800000#32) = 1#1) : IsR x := by
  have e : Ideal.ofBits .f32 0x7F800000#32 = ⊤ := by simp [Ideal.ofBits, Ideal.ieee]
  rw [e] at h
  induction x using EReal.rec with
  | bot => simp [Ideal.cmp] at h
  | top => simp [Ideal.cmp] at h
  | coe r => exact ⟨r, rfl⟩

instance : Subsingleton S_.Idx := ⟨fun a b => funext fun i => i.elim0⟩

/-- One argument's test, read back. -/
theorem all_real {s : Shape} {axes : List (Fin s.rank)} (x : FVec Ideal s .f32)
    (hb : S_.BroadcastsInDim s (![] : Fin 0 → Fin s.rank)) (h : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) h hu j = 1#1) (i : s.Idx) : IsR (x i) :=
  isR_of_below (x i) (Host.reduce_andi_all _ _ h hu j e i)

variable [Facts]

/-- Where the precondition holds, every element of the seven arguments is a real number. -/
theorem real_of_fn (a0 : FVec Ideal S256x1024 .f32) (a1 : FVec Ideal S256x1 .f32) (a2 : FVec Ideal S256x1024 .f32)
    (a3 : FVec Ideal S1025x2048 .f32) (a4 : FVec Ideal S2048 .f32) (a5 : FVec Ideal S2048x2048 .f32) (a6 : FVec Ideal S2048 .f32)
    (h : fn (F := Ideal) a0 a1 a2 a3 a4 a5 a6 = fun _ => 1#1) :
    (∀ i, IsR (a0 i)) ∧ (∀ i, IsR (a1 i)) ∧ (∀ i, IsR (a2 i)) ∧ (∀ i, IsR (a3 i)) ∧ (∀ i, IsR (a4 i)) ∧ (∀ i, IsR (a5 i))
      ∧ ∀ i, IsR (a6 i) := by
  have e := congrFun h (Shape.Idx.first Facts.h_S_)
  unfold fn fn_part1 at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨all_real a0 _ _ _ _ e0, all_real a1 _ _ _ _ e1, all_real a2 _ _ _ _ e2, all_real a3 _ _ _ _ e3, all_real a4 _ _ _ _ e4,
    all_real a5 _ _ _ _ e5, all_real a6 _ _ _ _ e6⟩

end Cert.Pre_finite
end
-- ==== Proof.lean ====
/- The certificate: the frames of the three programs, the named constants of the idealized kernel, and its equality with the
   reference on real arguments. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.RefRead
public import proofs.«01_k».proof.Proof.Launch
public import proofs.«01_k».proof.Proof.KernelLaunch
public import proofs.«01_k».proof.Proof.Equal
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The kernel's frame. -/
theorem frame_kernel : Cert.quiescent_Kernel := fun m ρ _ => Cert.Kernel.Body.frame m ρ

/-- The idealized kernel's frame. -/
theorem frame_ideal : Cert.quiescent_KernelIdeal := fun m ρ _ => Cert.KernelIdeal.Body.frame m ρ

/-- The reference's frame: a host program without semaphores. -/
theorem frame_ref : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The five named constants. -/
theorem named : Cert.preserves_Kernel_KernelIdeal :=
  ⟨IdealRules.named_const.statement Cert.KernelIdeal.κ "two_ln_sigma" .f32 0xC0FA5E96#32 _ rfl,
    IdealRules.named_const.statement Cert.KernelIdeal.κ "sqrt_two" .f32 0x3FB504F3#32 _ rfl,
    IdealRules.named_const.statement Cert.KernelIdeal.κ "no_clamp" .f32 0x7149F2CA#32 _ rfl,
    IdealRules.named_const.statement Cert.KernelIdeal.κ "minus_two_ln_sigma" .f32 0x40FA5E96#32 _ rfl,
    IdealRules.named_const.statement Cert.KernelIdeal.κ "minus_ln_sigma_mean" .f32 0x377A5E96#32 _ rfl⟩

/-- The idealized kernel's frame, over the memories the precondition admits. -/
theorem frame_ideal_pre : Cert.quiescent_KernelIdeal_pre_finite := fun m ρ _ => frame_ideal m ρ trivial

/-- The same for the reference. -/
theorem frame_ref_pre : Cert.quiescent_ReferenceIdeal_pre_finite := fun m ρ _ => frame_ref m ρ trivial

/-- The precondition on a device's arguments, element by element. -/
theorem real_args (m : (ℓ : Loc Cert.KernelIdeal.nD Cert.KernelIdeal.τ Cert.KernelIdeal.sig) → Buf (Elt Ideal) ℓ)
    (h : Cert.Pre_KernelIdeal_finite m) (c : Dev Cert.KernelIdeal.nD) :
    Cert.Equal.Real (Cert.Equal.arg0 m c) (Cert.Equal.arg1 m c) (Cert.Equal.arg2 m c) (Cert.Equal.arg3 m c) (Cert.Equal.arg4 m c)
      (Cert.Equal.arg5 m c) (Cert.Equal.arg6 m c) := by
  obtain ⟨h0, h1, h2, h3, h4, h5, h6⟩ := Cert.Pre_finite.real_of_fn _ _ _ _ _ _ _ (h c)
  exact ⟨h0, h1, h2, h3, h4, h5, h6⟩

/-- The two results are equal on real arguments. -/
theorem algebraic : Cert.algebraic_KernelIdeal_ReferenceIdeal_pre_finite := by
  intro m g m' g' hpre hagree
  refine ⟨fun c => Cert.ReferenceIdeal.Read.val_main_v129 (F := Ideal) (Cert.Equal.arg0 m c) (Cert.Equal.arg1 m c)
    (Cert.Equal.arg2 m c) (Cert.Equal.arg3 m c) (Cert.Equal.arg4 m c) (Cert.Equal.arg5 m c) (Cert.Equal.arg6 m c), ?_, ?_⟩
  · refine (θ_run Cert.KernelIdeal.defs _ _).mono (fun r h c => ⟨?_, h.2.1 c⟩)
      (θ_run_and (Cert.KernelIdeal.Body.run_quiescent m g) (Cert.KernelIdeal.Body.frame m g))
    refine ((h.1.1 c).2 Cert.KernelIdeal.main_v3 (Pipeline.mem_restRefs_of Cert.KernelIdeal.main_v3 (by decide) (by decide))).trans ?_
    refine (Cert.KernelIdeal.Body.tail_v3 m c).trans ?_
    exact funext fun i => Cert.Equal.results m c (real_args m hpre c) i
  · refine (θ_run Cert.ReferenceIdeal.defs _ _).mono (fun r h c => ⟨?_, (h c).2⟩) (Cert.ReferenceIdeal.Value.run (F := Ideal) m' g')
    refine (h c).1.trans ((Cert.ReferenceIdeal.Read.val_main_v129_eq (StableHlo.launchContents m' c)).trans ?_)
    obtain ⟨h0, h1, h2, h3, h4, h5, h6⟩ := hagree c
    simp only [StableHlo.launchContents_devRef]
    exact congr (congr (congr (congr (congr (congrArg₂ (Cert.ReferenceIdeal.Read.val_main_v129 (F := Ideal)) h0 h1) h2) h3) h4) h5) h6

/-- All the claims. -/
theorem claim : Cert.Claim :=
  ⟨Cert.Kernel.Gen.facts, Cert.KernelIdeal.Gen.facts, Cert.ReferenceIdeal.Gen.facts, Cert.Pre_finite.Gen.facts,
    frame_kernel, frame_ideal, frame_ideal_pre, frame_ref, frame_ref_pre, named, algebraic⟩

end Cert.Proof

end
